-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S1024x512 : Shape := ⟨2, ![1024, 512]⟩
abbrev S16 : Shape := ⟨1, ![16]⟩
abbrev S_ : Shape := ⟨0, ![]⟩
abbrev S9 : Shape := ⟨1, ![9]⟩
abbrev S1 : Shape := ⟨1, ![1]⟩
abbrev S128x512 : Shape := ⟨2, ![128, 512]⟩
abbrev S64x512 : Shape := ⟨2, ![64, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S4096x512, .bf16⟩
  | .local _ .vmem, ⟨0, _⟩ => ⟨S2048x512, .f32⟩
  | .local _ .vmem, ⟨1, _⟩ => ⟨S2048x512, .bf16⟩
  | .local _ .vmem, ⟨2, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  (ofTc nBuf bufTy 1 90 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32_6 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v12 : BitVec 32 := Scalar.addi v8 c0_i32_6
  let c0_i32_8 : BitVec 32 := 0#32
  ![v12.toNat, 0]
def k0_off2 (d0 : Dev nD) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let c0_i32_33 : BitVec 32 := 0#32
  ![v10.toNat, 0]
def k0_dev1 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v64 : BitVec 32 := Scalar.muli v6 c2_i32_36
  let v65 : BitVec 32 := Scalar.addi c0_i32_37 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v66 : BitVec 32 := Scalar.muli v5 c1_i32_38
  let v67 : BitVec 32 := Scalar.addi v65 v66
  v67.toNat
def k0_dev2 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v68 : BitVec 32 := Scalar.muli v2 c2_i32_40
  let v69 : BitVec 32 := Scalar.addi c0_i32_41 v68
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_42 : BitVec 32 := 1#32
  let v70 : BitVec 32 := Scalar.muli v7 c1_i32_42
  let v71 : BitVec 32 := Scalar.addi v69 v70
  v71.toNat
def k0_off3 (d0 : Dev nD) (c0_i32_47 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v76 : BitVec 32 := Scalar.addi v8 c0_i32_47
  let v77 : Index := Scalar.indexCast v76
  let c0 : Index := 0#32
  ![v77.toNat, 0]
def k0_off4 (d0 : Dev nD) (c0_i32_50 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v85 : BitVec 32 := Scalar.addi v8 c0_i32_50
  let c0_i32_58 : BitVec 32 := 0#32
  ![v85.toNat, 0]
def k0_dev3 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v86 : BitVec 32 := Scalar.muli v6 c2_i32_53
  let v87 : BitVec 32 := Scalar.addi c0_i32_54 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v88 : BitVec 32 := Scalar.muli v5 c1_i32_55
  let v89 : BitVec 32 := Scalar.addi v87 v88
  v89.toNat
def k0_dev4 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v97 : BitVec 32 := Scalar.muli v6 c2_i32_61
  let v98 : BitVec 32 := Scalar.addi c0_i32_62 v97
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v99 : BitVec 32 := Scalar.muli v5 c1_i32_63
  let v100 : BitVec 32 := Scalar.addi v98 v99
  v100.toNat
def k0_dev5 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v121 : BitVec 32 := Scalar.muli v6 c2_i32_77
  let v122 : BitVec 32 := Scalar.addi c0_i32_78 v121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v123 : BitVec 32 := Scalar.muli v5 c1_i32_79
  let v124 : BitVec 32 := Scalar.addi v122 v123
  v124.toNat
def k0_dev6 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v132 : BitVec 32 := Scalar.muli v6 c2_i32_85
  let v133 : BitVec 32 := Scalar.addi c0_i32_86 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v134 : BitVec 32 := Scalar.muli v5 c1_i32_87
  let v135 : BitVec 32 := Scalar.addi v133 v134
  v135.toNat
def k0_dev7 (d0 : Dev nD) : Nat :=
  let c0_i32_102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_101 : BitVec 32 := 2#32
  let v156 : BitVec 32 := Scalar.muli v6 c2_i32_101
  let v157 : BitVec 32 := Scalar.addi c0_i32_102 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v158 : BitVec 32 := Scalar.muli v5 c1_i32_103
  let v159 : BitVec 32 := Scalar.addi v157 v158
  v159.toNat
def k0_dev8 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v167 : BitVec 32 := Scalar.muli v6 c2_i32_109
  let v168 : BitVec 32 := Scalar.addi c0_i32_110 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v169 : BitVec 32 := Scalar.muli v5 c1_i32_111
  let v170 : BitVec 32 := Scalar.addi v168 v169
  v170.toNat
def k0_dev9 (d0 : Dev nD) : Nat :=
  let c0_i32_126 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_125 : BitVec 32 := 2#32
  let v191 : BitVec 32 := Scalar.muli v6 c2_i32_125
  let v192 : BitVec 32 := Scalar.addi c0_i32_126 v191
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_127 : BitVec 32 := 1#32
  let v193 : BitVec 32 := Scalar.muli v5 c1_i32_127
  let v194 : BitVec 32 := Scalar.addi v192 v193
  v194.toNat
def k0_dev10 (d0 : Dev nD) : Nat :=
  let c0_i32_134 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_133 : BitVec 32 := 2#32
  let v202 : BitVec 32 := Scalar.muli v6 c2_i32_133
  let v203 : BitVec 32 := Scalar.addi c0_i32_134 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_135 : BitVec 32 := 1#32
  let v204 : BitVec 32 := Scalar.muli v5 c1_i32_135
  let v205 : BitVec 32 := Scalar.addi v203 v204
  v205.toNat
def k0_dev11 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v226 : BitVec 32 := Scalar.muli v6 c2_i32_149
  let v227 : BitVec 32 := Scalar.addi c0_i32_150 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v228 : BitVec 32 := Scalar.muli v5 c1_i32_151
  let v229 : BitVec 32 := Scalar.addi v227 v228
  v229.toNat
def k0_dev12 (d0 : Dev nD) : Nat :=
  let c0_i32_157 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_156 : BitVec 32 := 2#32
  let v237 : BitVec 32 := Scalar.muli v6 c2_i32_156
  let v238 : BitVec 32 := Scalar.addi c0_i32_157 v237
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v239 : BitVec 32 := Scalar.muli v5 c1_i32_158
  let v240 : BitVec 32 := Scalar.addi v238 v239
  v240.toNat
def k0_dev13 (d0 : Dev nD) : Nat :=
  let c0_i32_172 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_171 : BitVec 32 := 2#32
  let v261 : BitVec 32 := Scalar.muli v6 c2_i32_171
  let v262 : BitVec 32 := Scalar.addi c0_i32_172 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v263 : BitVec 32 := Scalar.muli v5 c1_i32_173
  let v264 : BitVec 32 := Scalar.addi v262 v263
  v264.toNat
def k0_dev14 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v272 : BitVec 32 := Scalar.muli v6 c2_i32_178
  let v273 : BitVec 32 := Scalar.addi c0_i32_179 v272
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v274 : BitVec 32 := Scalar.muli v5 c1_i32_180
  let v275 : BitVec 32 := Scalar.addi v273 v274
  v275.toNat
def k0_dev15 (d0 : Dev nD) : Nat :=
  let c0_i32_194 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_193 : BitVec 32 := 2#32
  let v296 : BitVec 32 := Scalar.muli v6 c2_i32_193
  let v297 : BitVec 32 := Scalar.addi c0_i32_194 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_195 : BitVec 32 := 1#32
  let v298 : BitVec 32 := Scalar.muli v5 c1_i32_195
  let v299 : BitVec 32 := Scalar.addi v297 v298
  v299.toNat
def k0_dev16 (d0 : Dev nD) : Nat :=
  let c0_i32_201 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_200 : BitVec 32 := 2#32
  let v307 : BitVec 32 := Scalar.muli v6 c2_i32_200
  let v308 : BitVec 32 := Scalar.addi c0_i32_201 v307
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v309 : BitVec 32 := Scalar.muli v5 c1_i32_202
  let v310 : BitVec 32 := Scalar.addi v308 v309
  v310.toNat
def k0_dev17 (d0 : Dev nD) : Nat :=
  let c0_i32_216 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_215 : BitVec 32 := 2#32
  let v331 : BitVec 32 := Scalar.muli v6 c2_i32_215
  let v332 : BitVec 32 := Scalar.addi c0_i32_216 v331
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_217 : BitVec 32 := 1#32
  let v333 : BitVec 32 := Scalar.muli v5 c1_i32_217
  let v334 : BitVec 32 := Scalar.addi v332 v333
  v334.toNat
def k0_dev18 (d0 : Dev nD) : Nat :=
  let c0_i32_223 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_222 : BitVec 32 := 2#32
  let v342 : BitVec 32 := Scalar.muli v6 c2_i32_222
  let v343 : BitVec 32 := Scalar.addi c0_i32_223 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v344 : BitVec 32 := Scalar.muli v5 c1_i32_224
  let v345 : BitVec 32 := Scalar.addi v343 v344
  v345.toNat
def k0_off5 (d0 : Dev nD) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let v356 : Index := Scalar.indexCast v10
  let c0_231 : Index := 0#32
  ![v356.toNat, 0]
def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v363 : BitVec 32 := Scalar.muli v2 c2048_i32
  let c0_i32_233 : BitVec 32 := 0#32
  ![v363.toNat, 0]
def k0_off7 (d0 : Dev nD) (c0_i32_245 : BitVec 32) : Fin 2 → Nat :=
  let c1_i32_234 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v365 : BitVec 32 := Scalar.subi c1_i32_234 v2
  let c2048_i32_235 : BitVec 32 := 2048#32
  let v366 : BitVec 32 := Scalar.muli v365 c2048_i32_235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_236 : BitVec 32 := 1024#32
  let v367 : BitVec 32 := Scalar.muli v5 c1024_i32_236
  let v368 : BitVec 32 := Scalar.addi v366 v367
  let v377 : BitVec 32 := Scalar.addi v368 c0_i32_245
  let c0_i32_251 : BitVec 32 := 0#32
  ![v377.toNat, 0]
def k0_dev19 (d0 : Dev nD) : Nat :=
  let c0_i32_249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_248 : BitVec 32 := 2#32
  let v378 : BitVec 32 := Scalar.muli v2 c2_i32_248
  let v379 : BitVec 32 := Scalar.addi c0_i32_249 v378
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_250 : BitVec 32 := 1#32
  let v380 : BitVec 32 := Scalar.muli v7 c1_i32_250
  let v381 : BitVec 32 := Scalar.addi v379 v380
  v381.toNat
def k0_dev20 (d0 : Dev nD) : Nat :=
  let c0_i32_271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_270 : BitVec 32 := 2#32
  let v402 : BitVec 32 := Scalar.muli v2 c2_i32_270
  let v403 : BitVec 32 := Scalar.addi c0_i32_271 v402
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_272 : BitVec 32 := 1#32
  let v404 : BitVec 32 := Scalar.muli v7 c1_i32_272
  let v405 : BitVec 32 := Scalar.addi v403 v404
  v405.toNat
def k0_dev21 (d0 : Dev nD) : Nat :=
  let c0_i32_293 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_292 : BitVec 32 := 2#32
  let v426 : BitVec 32 := Scalar.muli v2 c2_i32_292
  let v427 : BitVec 32 := Scalar.addi c0_i32_293 v426
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_294 : BitVec 32 := 1#32
  let v428 : BitVec 32 := Scalar.muli v7 c1_i32_294
  let v429 : BitVec 32 := Scalar.addi v427 v428
  v429.toNat
def k0_dev22 (d0 : Dev nD) : Nat :=
  let c0_i32_315 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_314 : BitVec 32 := 2#32
  let v450 : BitVec 32 := Scalar.muli v2 c2_i32_314
  let v451 : BitVec 32 := Scalar.addi c0_i32_315 v450
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_316 : BitVec 32 := 1#32
  let v452 : BitVec 32 := Scalar.muli v7 c1_i32_316
  let v453 : BitVec 32 := Scalar.addi v451 v452
  v453.toNat
def k0_dev23 (d0 : Dev nD) : Nat :=
  let c0_i32_337 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_336 : BitVec 32 := 2#32
  let v474 : BitVec 32 := Scalar.muli v2 c2_i32_336
  let v475 : BitVec 32 := Scalar.addi c0_i32_337 v474
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_338 : BitVec 32 := 1#32
  let v476 : BitVec 32 := Scalar.muli v7 c1_i32_338
  let v477 : BitVec 32 := Scalar.addi v475 v476
  v477.toNat
def k0_dev24 (d0 : Dev nD) : Nat :=
  let c0_i32_359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_358 : BitVec 32 := 2#32
  let v498 : BitVec 32 := Scalar.muli v2 c2_i32_358
  let v499 : BitVec 32 := Scalar.addi c0_i32_359 v498
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_360 : BitVec 32 := 1#32
  let v500 : BitVec 32 := Scalar.muli v7 c1_i32_360
  let v501 : BitVec 32 := Scalar.addi v499 v500
  v501.toNat
def k0_dev25 (d0 : Dev nD) : Nat :=
  let c0_i32_381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_380 : BitVec 32 := 2#32
  let v522 : BitVec 32 := Scalar.muli v2 c2_i32_380
  let v523 : BitVec 32 := Scalar.addi c0_i32_381 v522
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_382 : BitVec 32 := 1#32
  let v524 : BitVec 32 := Scalar.muli v7 c1_i32_382
  let v525 : BitVec 32 := Scalar.addi v523 v524
  v525.toNat
def k0_dev26 (d0 : Dev nD) : Nat :=
  let c0_i32_403 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_402 : BitVec 32 := 2#32
  let v546 : BitVec 32 := Scalar.muli v2 c2_i32_402
  let v547 : BitVec 32 := Scalar.addi c0_i32_403 v546
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_404 : BitVec 32 := 1#32
  let v548 : BitVec 32 := Scalar.muli v7 c1_i32_404
  let v549 : BitVec 32 := Scalar.addi v547 v548
  v549.toNat
def k0_dev27 (d0 : Dev nD) : Nat :=
  let c0_i32_425 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_424 : BitVec 32 := 2#32
  let v570 : BitVec 32 := Scalar.muli v2 c2_i32_424
  let v571 : BitVec 32 := Scalar.addi c0_i32_425 v570
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_426 : BitVec 32 := 1#32
  let v572 : BitVec 32 := Scalar.muli v7 c1_i32_426
  let v573 : BitVec 32 := Scalar.addi v571 v572
  v573.toNat
def k0_dev28 (d0 : Dev nD) : Nat :=
  let c0_i32_447 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_446 : BitVec 32 := 2#32
  let v594 : BitVec 32 := Scalar.muli v2 c2_i32_446
  let v595 : BitVec 32 := Scalar.addi c0_i32_447 v594
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_448 : BitVec 32 := 1#32
  let v596 : BitVec 32 := Scalar.muli v7 c1_i32_448
  let v597 : BitVec 32 := Scalar.addi v595 v596
  v597.toNat
def k0_dev29 (d0 : Dev nD) : Nat :=
  let c0_i32_469 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_468 : BitVec 32 := 2#32
  let v618 : BitVec 32 := Scalar.muli v2 c2_i32_468
  let v619 : BitVec 32 := Scalar.addi c0_i32_469 v618
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_470 : BitVec 32 := 1#32
  let v620 : BitVec 32 := Scalar.muli v7 c1_i32_470
  let v621 : BitVec 32 := Scalar.addi v619 v620
  v621.toNat
def k0_dev30 (d0 : Dev nD) : Nat :=
  let c0_i32_491 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_490 : BitVec 32 := 2#32
  let v642 : BitVec 32 := Scalar.muli v2 c2_i32_490
  let v643 : BitVec 32 := Scalar.addi c0_i32_491 v642
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_492 : BitVec 32 := 1#32
  let v644 : BitVec 32 := Scalar.muli v7 c1_i32_492
  let v645 : BitVec 32 := Scalar.addi v643 v644
  v645.toNat
def k0_dev31 (d0 : Dev nD) : Nat :=
  let c0_i32_513 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_512 : BitVec 32 := 2#32
  let v666 : BitVec 32 := Scalar.muli v2 c2_i32_512
  let v667 : BitVec 32 := Scalar.addi c0_i32_513 v666
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_514 : BitVec 32 := 1#32
  let v668 : BitVec 32 := Scalar.muli v7 c1_i32_514
  let v669 : BitVec 32 := Scalar.addi v667 v668
  v669.toNat
def k0_dev32 (d0 : Dev nD) : Nat :=
  let c0_i32_535 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_534 : BitVec 32 := 2#32
  let v690 : BitVec 32 := Scalar.muli v2 c2_i32_534
  let v691 : BitVec 32 := Scalar.addi c0_i32_535 v690
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_536 : BitVec 32 := 1#32
  let v692 : BitVec 32 := Scalar.muli v7 c1_i32_536
  let v693 : BitVec 32 := Scalar.addi v691 v692
  v693.toNat
def k0_dev33 (d0 : Dev nD) : Nat :=
  let c0_i32_557 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_556 : BitVec 32 := 2#32
  let v714 : BitVec 32 := Scalar.muli v2 c2_i32_556
  let v715 : BitVec 32 := Scalar.addi c0_i32_557 v714
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_558 : BitVec 32 := 1#32
  let v716 : BitVec 32 := Scalar.muli v7 c1_i32_558
  let v717 : BitVec 32 := Scalar.addi v715 v716
  v717.toNat
def k0_dev34 (d0 : Dev nD) : Nat :=
  let c0_i32_579 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_578 : BitVec 32 := 2#32
  let v738 : BitVec 32 := Scalar.muli v2 c2_i32_578
  let v739 : BitVec 32 := Scalar.addi c0_i32_579 v738
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_580 : BitVec 32 := 1#32
  let v740 : BitVec 32 := Scalar.muli v7 c1_i32_580
  let v741 : BitVec 32 := Scalar.addi v739 v740
  v741.toNat
-- ==== ReferenceIdeal.lean ====
abbrev S4096x512 : Shape := ⟨2, ![4096, 512]⟩

abbrev nBuf : Space → Nat
  | .hbm => 2
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Loop.lean ====
/-
# The kernel's body as loops

The printed body is one long straight line: every step of the sixteen chunks and of the eight row groups is
written out. This module names the steps once, each over its chunk or group number, and states that the printed
body is those steps run over the lists `0, …, 15` and `0, …, 7`.
-/
module

public import proofs.«01_k».proof.Proof.Gen.KernelIdeal
public import proofs.«01_k».proof.Proof.Gen.KernelIdeal.Points
public import proofs.«01_k».proof.Proof.Gen.KernelIdeal.Skeleton
public import Idealize.ShloMosaic.Lib.Pipeline.Regions

@[expose] public section

noncomputable section

namespace Cert.RelayProof

open Cert.KernelIdeal Cert.KernelIdeal.Gen
open Idealize.ShloMosaic Idealize.ShloMosaic.TcCoe Idealize.SL.Sem

variable {F : FTy → Type} [FloatOps F]

/-! ## The buffers and the semaphores -/

/-- The argument block, in main memory. -/
abbrev xM : Memref sig .tc .hbm S2048x512 .f32 := Memref.whole main_arg0
/-- The gathered result, in main memory. -/
abbrev oM : Memref sig .tc .hbm S4096x512 .bf16 := Memref.whole main_v1
/-- The argument block staged in vector memory. -/
abbrev vM : Memref sig .tc .vmem S2048x512 .f32 := Memref.whole cc0_scratch0
/-- The argument block cast to bf16. -/
abbrev sM : Memref sig .tc .vmem S2048x512 .bf16 := Memref.whole cc0_scratch1
/-- The landing buffer of the first phase. -/
abbrev rM : Memref sig .tc .vmem S1024x512 .bf16 := Memref.whole cc0_scratch2

/-- Semaphore `k` lies in its bank of sixteen. -/
theorem inb16 (k : Fin 16) : ∀ a, (![k.val] : Fin 1 → Nat) a + S1.size a ≤ S16.size a := by
  revert k; decide
/-- Semaphore `k` lies in its bank of nine. -/
theorem inb9 (k : Fin 9) : ∀ a, (![k.val] : Fin 1 → Nat) a + S1.size a ≤ S9.size a := by
  revert k; decide

/-- Semaphore `k` of a bank of sixteen. -/
abbrev sem16 (A : DmaSems sig S16) (k : Fin 16) : DmaSem sig :=
  ((A.slice (Rect.unit (s := S16) ![k.val] S1.size (inb16 k))).squeeze S_ squeezes_S1_S_).sem
/-- Semaphore `k` of a bank of nine. -/
abbrev sem9 (A : DmaSems sig S9) (k : Fin 9) : DmaSem sig :=
  ((A.slice (Rect.unit (s := S9) ![k.val] S1.size (inb9 k))).squeeze S_ squeezes_S1_S_).sem

/-- The first phase's send and receive semaphores, the second phase's, the local copies', the own block's, the fetches'. -/
abbrev s1S (k : Fin 16) : DmaSem sig := sem16 cc0_scratch3 k
/-- The first phase's receive semaphores. -/
abbrev r1S (k : Fin 16) : DmaSem sig := sem16 cc0_scratch4 k
/-- The second phase's send semaphores. -/
abbrev s2S (k : Fin 16) : DmaSem sig := sem16 cc0_scratch5 k
/-- The second phase's receive semaphores. -/
abbrev r2S (k : Fin 16) : DmaSem sig := sem16 cc0_scratch6 k
/-- The semaphores of the chunks' local copies. -/
abbrev dS (k : Fin 16) : DmaSem sig := sem16 cc0_scratch7 k
/-- The semaphore of the own block's copy. -/
abbrev ownS : DmaSem sig := cc0_scratch8.sem
/-- The semaphores of the fetches, the kept half's last. -/
abbrev inS (k : Fin 9) : DmaSem sig := sem9 cc0_scratch9 k
/-- The shared barrier semaphore. -/
abbrev barS : Sem sig := (SemArray.scalar (sig.barrier 0 rfl) : Sems sig S_).sem

/-! ## The pieces the copies move -/

/-- Chunk `k` lies in the landing buffer. -/
theorem rbInb (k : Fin 16) : ∀ a, (![64 * k.val, 0] : Fin 2 → Nat) a + S64x512.size a ≤ S1024x512.size a := by
  revert k; decide

/-- Rows `128 g …` of the half device `d0` sends, of the argument and of the staged copy. -/
abbrev xG (d0 : Dev nD) (g : Fin 8) : Memref sig .tc .hbm S128x512 .f32 :=
  xM.slice (Rect.unit (s := S2048x512) (k0_off1 d0 (BitVec.ofNat 32 (128 * g.val))) S128x512.size (k0_off1_inb d0 g)) (fun _ => rfl)
/-- The same rows of the staged copy. -/
abbrev vG (d0 : Dev nD) (g : Fin 8) : Memref sig .tc .vmem S128x512 .f32 :=
  vM.slice (Rect.unit (s := S2048x512) (k0_off1 d0 (BitVec.ofNat 32 (128 * g.val))) S128x512.size (k0_off1_inb d0 g)) (fun _ => rfl)
/-- The half device `d0` keeps. -/
abbrev xH (d0 : Dev nD) : Memref sig .tc .hbm S1024x512 .f32 :=
  xM.slice (Rect.unit (s := S2048x512) (k0_off2 d0) S1024x512.size (k0_off2_inb d0)) (fun _ => rfl)
/-- The same half of the staged copy. -/
abbrev vH (d0 : Dev nD) : Memref sig .tc .vmem S1024x512 .f32 :=
  vM.slice (Rect.unit (s := S2048x512) (k0_off2 d0) S1024x512.size (k0_off2_inb d0)) (fun _ => rfl)
/-- The rectangles loaded and stored: group `g`'s rows, and the kept half. -/
abbrev gRect (d0 : Dev nD) (g : Fin 8) : Rect S2048x512 :=
  Rect.unit (s := S2048x512) (k0_off3 d0 (BitVec.ofNat 32 (128 * g.val))) S128x512.size (k0_off3_inb d0 g)
/-- The kept half's rectangle. -/
abbrev hRect (d0 : Dev nD) : Rect S2048x512 :=
  Rect.unit (s := S2048x512) (k0_off5 d0) S1024x512.size (k0_off5_inb d0)
/-- Chunk `k` of the sent half of the cast block. -/
abbrev sC (d0 : Dev nD) (k : Fin 16) : Memref sig .tc .vmem S64x512 .bf16 :=
  sM.slice (Rect.unit (s := S2048x512) (k0_off4 d0 (BitVec.ofNat 32 (64 * k.val))) S64x512.size (k0_off4_inb d0 k)) (fun _ => rfl)
/-- Chunk `k` of the landing buffer. -/
abbrev rC (k : Fin 16) : Memref sig .tc .vmem S64x512 .bf16 :=
  rM.slice (Rect.unit (s := S1024x512) ![64 * k.val, 0] S64x512.size (rbInb k)) (fun _ => rfl)
/-- Chunk `k` of the rows of the result that device `d0` relays. -/
abbrev oC (d0 : Dev nD) (k : Fin 16) : Memref sig .tc .hbm S64x512 .bf16 :=
  oM.slice (Rect.unit (s := S4096x512) (k0_off7 d0 (BitVec.ofNat 32 (64 * k.val))) S64x512.size (k0_off7_inb d0 k)) (fun _ => rfl)
/-- Device `d0`'s own rows of the result. -/
abbrev oO (d0 : Dev nD) : Memref sig .tc .hbm S2048x512 .bf16 :=
  oM.slice (Rect.unit (s := S4096x512) (k0_off6 d0) S2048x512.size (k0_off6_inb d0)) (fun _ => rfl)

/-- A group's rows of the argument are whole words. -/
theorem xG_words (d0 : Dev nD) (g : Fin 8) : (xG d0 g).view.WordExact := View.wordExact_bits rfl
/-- So are a group's staged rows. -/
theorem vG_words (d0 : Dev nD) (g : Fin 8) : (vG d0 g).view.WordExact := View.wordExact_bits rfl
/-- So is the argument's kept half. -/
theorem xH_words (d0 : Dev nD) : (xH d0).view.WordExact := View.wordExact_bits rfl
/-- So is the staged kept half. -/
theorem vH_words (d0 : Dev nD) : (vH d0).view.WordExact := View.wordExact_bits rfl
/-- A chunk of the cast block is whole words. -/
theorem sC_words (d0 : Dev nD) (k : Fin 16) : (sC d0 k).view.WordExact :=
  (Memref.isWhole_whole _).wordExact_slice rfl _ (k0_off4_wordsbf16 d0 k)
/-- A chunk's rectangle of the landing buffer is whole words. -/
theorem rbWords (k : Fin 16) :
    (Rect.unit (s := S1024x512) ![64 * k.val, 0] S64x512.size (rbInb k)).WholeWords (EltTy.packing .bf16) := by
  revert k; decide
/-- So the chunk there is whole words. -/
theorem rC_words (k : Fin 16) : (rC k).view.WordExact :=
  (Memref.isWhole_whole _).wordExact_slice rfl _ (rbWords k)
/-- A relayed chunk of the result is whole words. -/
theorem oC_words (d0 : Dev nD) (k : Fin 16) : (oC d0 k).view.WordExact :=
  (Memref.isWhole_whole _).wordExact_slice rfl _ (k0_off7_wordsbf16 d0 k)
/-- The device's own rows of the result are whole words. -/
theorem oO_words (d0 : Dev nD) : (oO d0).view.WordExact :=
  (Memref.isWhole_whole _).wordExact_slice rfl _ (k0_off6_wordsbf16 d0)

/-- The device's partner along the first mesh axis and along the second, as the body computes them. -/
abbrev dX (d0 : Dev nD) : Dev nD := ⟨k0_dev3 d0, k0_dev3_lt d0⟩
/-- The partner along the second mesh axis. -/
abbrev dY (d0 : Dev nD) : Dev nD := ⟨k0_dev19 d0, k0_dev19_lt d0⟩

/-! ## The steps -/

/-- A program of one core that returns nothing. -/
abbrev TProg (F : FTy → Type) : Type 1 := Prog (TpuEff nD τ sig (Elt F) Λ₀ .tc) PUnit

/-- `f` run on the list's members, in order. -/
def loop {ι : Type} (f : ι → TProg F) : List ι → TProg F
  | [] => pure ⟨⟩
  | a :: l => f a >>= fun _ => loop f l

/-- Start the fetch of group `g`'s rows. -/
def fetch (d0 : Dev nD) (g : Fin 8) : TProg F :=
  Prog.lift (.enqueueDma (xG d0 g) (.here (vG d0 g)) (.dma (inS (Fin.castSucc g))) (xG_words d0 g) (vG_words d0 g) ⟨Or.inl rfl, trivial⟩)
/-- Start the fetch of the kept half. -/
def fetchH (d0 : Dev nD) : TProg F :=
  Prog.lift (.enqueueDma (xH d0) (.here (vH d0)) (.dma (inS 8)) (xH_words d0) (vH_words d0) ⟨Or.inl rfl, trivial⟩)

/-- The handshake with the two partners. -/
def hand (d0 : Dev nD) : TProg F := do
  semSignalWord (⟨k0_dev1 d0, k0_dev1_lt d0⟩ : Dev nD) barS 1#32
  semSignalWord (⟨k0_dev2 d0, k0_dev2_lt d0⟩ : Dev nD) barS 1#32
  semWaitWord barS 2#32

/-- Wait for group `g`'s rows and store their cast. -/
def castG (d0 : Dev nD) (g : Fin 8) : TProg F := do
  Prog.lift (.waitDma2 (inS (Fin.castSucc g)) (xG d0 g) (vG d0 g) (xG_words d0 g) (vG_words d0 g))
  let v : Vec F S128x512 .f32 ← Prog.lift (.load vM (gRect d0 g).toLoadRect (View.loadsAt_vmem h_S128x512))
  let w : Vec F S128x512 .bf16 ← Prog.lift (.load sM (gRect d0 g).toLoadRect (View.loadsAt_vmem h_S128x512))
  Prog.lift (.store sM (gRect d0 g) (k0_pay1 v) Finset.univ
    (View.stores_vmem h_S128x512 ((Memref.isWhole_whole _).storeExact_slice rfl _ (k0_off3_packedbf16 d0 g)) (fun _ => rfl)) (.inl rfl))

/-- Send chunk `k` to the partner along the first axis. -/
def send (d0 : Dev nD) (k : Fin 16) : TProg F :=
  Prog.lift (.enqueueDma (sC d0 k) (.remote (Dev.tc (dX d0)) (rC k) (.dma (s1S k))) (.dma (r1S k)) (sC_words d0 k) (rC_words k)
    ⟨⟨rfl, Or.inl rfl⟩, trivial⟩)

/-- Group `g`: cast its rows, send its two chunks. -/
def group (d0 : Dev nD) (g : Fin 8) : TProg F := do
  castG d0 g
  send d0 ⟨2 * g.val, by omega⟩
  send d0 ⟨2 * g.val + 1, by omega⟩

/-- Wait for the kept half and store its cast. -/
def castH (d0 : Dev nD) : TProg F := do
  Prog.lift (.waitDma2 (inS 8) (xH d0) (vH d0) (xH_words d0) (vH_words d0))
  let v : Vec F S1024x512 .f32 ← Prog.lift (.load vM (hRect d0).toLoadRect (View.loadsAt_vmem h_S1024x512))
  let w : Vec F S1024x512 .bf16 ← Prog.lift (.load sM (hRect d0).toLoadRect (View.loadsAt_vmem h_S1024x512))
  Prog.lift (.store sM (hRect d0) (k0_pay10 v) Finset.univ
    (View.stores_vmem h_S1024x512 ((Memref.isWhole_whole _).storeExact_slice rfl _ (k0_off5_packedbf16 d0)) (fun _ => rfl)) (.inl rfl))

/-- Start the copy of the cast block to its own rows of the result. -/
def own (d0 : Dev nD) : TProg F :=
  Prog.lift (.enqueueDma sM (.here (oO d0)) (.dma ownS) (Memref.isWhole_whole _).wordExact (oO_words d0) ⟨Or.inl rfl, trivial⟩)

/-- Wait for chunk `k`, pass it on to the partner along the second axis and copy it to the result. -/
def relay (d0 : Dev nD) (k : Fin 16) : TProg F := do
  Prog.lift (.waitDma2 (r1S k) (sC d0 k) (rC k) (sC_words d0 k) (rC_words k))
  Prog.lift (.enqueueDma (rC k) (.remote (Dev.tc (dY d0)) (oC d0 k) (.dma (s2S k))) (.dma (r2S k)) (rC_words k) (oC_words d0 k)
    ⟨⟨rfl, Or.inl rfl⟩, trivial⟩)
  Prog.lift (.enqueueDma (rC k) (.here (oC d0 k)) (.dma (dS k)) (rC_words k) (oC_words d0 k) ⟨Or.inl rfl, trivial⟩)

/-- Wait for the own block's copy. -/
def ownWait (d0 : Dev nD) : TProg F :=
  Prog.lift (.waitDma2 ownS sM (oO d0) (Memref.isWhole_whole _).wordExact (oO_words d0))

/-- Wait for everything still in flight on chunk `k`. -/
def drain (d0 : Dev nD) (k : Fin 16) : TProg F := do
  Prog.lift (.waitDma2 (dS k) (rC k) (oC d0 k) (rC_words k) (oC_words d0 k))
  Prog.lift (.waitDma2 (s1S k) (rC k) (sC d0 k) (rC_words k) (sC_words d0 k))
  Prog.lift (.waitDma2 (s2S k) (oC d0 k) (rC k) (oC_words d0 k) (rC_words k))
  Prog.lift (.waitDma2 (r2S k) (rC k) (oC d0 k) (rC_words k) (oC_words d0 k))

/-- The groups, in order. -/
abbrev l8 : List (Fin 8) := [0, 1, 2, 3, 4, 5, 6, 7]
/-- The chunks, in order. -/
abbrev l16 : List (Fin 16) := [0, 1, 2, 3, 4, 5, 6, 7, 8, 9, 10, 11, 12, 13, 14, 15]

/-- The whole body at device `d0`. -/
def steps (d0 : Dev nD) : TProg F := do
  loop (fetch d0) l8
  fetchH d0
  hand d0
  loop (group d0) l8
  castH d0
  own d0
  loop (relay d0) l16
  ownWait d0
  loop (drain d0) l16

/-- The printed body is the steps, at the device it runs on. -/
theorem body_eq (t : Fin cfg0.N) : (bodyAt0 t : TProg F) = Prog.lift .deviceId >>= fun d0 => steps d0 := by
  chain_rfl

end Cert.RelayProof

end
-- ==== Proof.Mesh.lean ====
/-
# The mesh, the contents and the row bands

The partners of a device on the two by two mesh; what every buffer holds once the kernel is done with it, as a
function of the arguments at launch; and the rows each piece of a buffer covers.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.Value

@[expose] public section

noncomputable section

namespace Cert.RelayProof

open Cert.KernelIdeal Cert.KernelIdeal.Gen
open Idealize.ShloMosaic Idealize.ShloMosaic.TcCoe Idealize.SL.Sem

variable {F : FTy → Type} [FloatOps F]

/-! ## The partners -/

set_option backward.proofsInPublic true in
/-- The partner along the first mesh axis. -/
def xn (c : Dev nD) : Dev nD := ⟨(c.val + 2) % 4, Nat.mod_lt _ (by decide)⟩
set_option backward.proofsInPublic true in
/-- The partner along the second. -/
def yn (c : Dev nD) : Dev nD := ⟨2 * (c.val / 2) + 1 - c.val % 2, by have : c.val < 4 := c.isLt; show _ < 4; omega⟩

/-- There are four devices. -/
theorem dev_lt (c : Dev nD) : c.val < 4 := c.isLt

/-- The partner along the first axis has the other first coordinate, -/
theorem xn_div (c : Dev nD) : (xn c).val / 2 = 1 - c.val / 2 := by have := dev_lt c; simp only [xn]; omega
/-- and the same second coordinate. -/
theorem xn_mod (c : Dev nD) : (xn c).val % 2 = c.val % 2 := by have := dev_lt c; simp only [xn]; omega
/-- The partner along the second axis has the same first coordinate, -/
theorem yn_div (c : Dev nD) : (yn c).val / 2 = c.val / 2 := by have := dev_lt c; simp only [yn]; omega
/-- and the other second coordinate. -/
theorem yn_mod (c : Dev nD) : (yn c).val % 2 = 1 - c.val % 2 := by have := dev_lt c; simp only [yn]; omega

/-- A device is its two mesh coordinates. -/
theorem dev_ext {a b : Dev nD} (h1 : a.val / 2 = b.val / 2) (h2 : a.val % 2 = b.val % 2) : a = b :=
  Fin.ext (by omega)

/-- A device is its partner's partner along the first axis, -/
theorem xn_xn (c : Dev nD) : xn (xn c) = c := by
  have := dev_lt c
  exact dev_ext (by rw [xn_div, xn_div]; omega) (by rw [xn_mod, xn_mod])
/-- and along the second. -/
theorem yn_yn (c : Dev nD) : yn (yn c) = c := by
  have := dev_lt c
  exact dev_ext (by rw [yn_div, yn_div]) (by rw [yn_mod, yn_mod]; omega)

/-- The partner maps as permutations of the devices. -/
def xEquiv : Dev nD ≃ Dev nD := ⟨xn, xn, xn_xn, xn_xn⟩
/-- The same along the second axis. -/
def yEquiv : Dev nD ≃ Dev nD := ⟨yn, yn, yn_yn, yn_yn⟩

/-- The device that the first phase sends to is the partner along the first axis. -/
theorem dX_eq (c : Dev nD) : dX c = xn c := by
  have := dev_lt c
  exact Fin.ext ((k0_dev3_eq c).trans (by simp only [xn]; omega))
/-- The device that the second phase sends to is the partner along the second axis. -/
theorem dY_eq (c : Dev nD) : dY c = yn c := Fin.ext (k0_dev19_eq c)
/-- The first signal goes to the partner along the first axis, -/
theorem dev1_eq (c : Dev nD) : (⟨k0_dev1 c, k0_dev1_lt c⟩ : Dev nD) = xn c := by
  have := dev_lt c
  exact Fin.ext ((k0_dev1_eq c).trans (by simp only [xn]; omega))
/-- and the second to the partner along the second. -/
theorem dev2_eq (c : Dev nD) : (⟨k0_dev2 c, k0_dev2_lt c⟩ : Dev nD) = yn c := Fin.ext (k0_dev2_eq c)

/-! ## The contents -/

variable (m : (ℓ : Loc nD τ sig) → Buf (Elt F) ℓ)

/-- Device `c`'s argument block at launch. -/
def argV (c : Dev nD) : (main_arg0 : Ref sig .tc).ty.Contents (Elt F) := m ((c : Thread nD τ).loc main_arg0)
/-- The same, as the staged copy holds it. -/
def stgV (c : Dev nD) : (cc0_scratch0 : Ref sig .tc).ty.Contents (Elt F) := fun i => argV m c i
/-- The block cast to bf16. -/
def castV (c : Dev nD) : (cc0_scratch1 : Ref sig .tc).ty.Contents (Elt F) :=
  fun i => FloatOps.truncf (F := F) .bf16 bitsLt_bf16_f32 (argV m c i)

/-- A block has at least one row and one column. -/
theorem sz_pos (a : Fin 2) : 0 < S2048x512.size a := by revert a; decide

/-- A row of the landing buffer, moved to the half that is sent, lies in the block. -/
theorem half_lt (c : Dev nD) (i : S1024x512.Idx) (a : Fin 2) :
    (i a).val + (![1024 * (c.val % 2), 0] : Fin 2 → ℕ) a < S2048x512.size a := by
  have h := (i a).isLt
  have h2 : c.val % 2 < 2 := Nat.mod_lt _ (by decide)
  fin_cases a
  · have h' : (i 0).val < 1024 := h
    show (i 0).val + 1024 * (c.val % 2) < 2048
    omega
  · have h' : (i 1).val < 512 := h
    show (i 1).val + 0 < 512
    omega

/-- Row `r` of the landing buffer is row `r` of the half the partner along the first axis sends. -/
def halfIdx (c : Dev nD) (i : S1024x512.Idx) : S2048x512.Idx := fun a => ⟨_, half_lt c i a⟩
/-- What the landing buffer holds once every chunk has landed: the partner's half, cast. -/
def landV (c : Dev nD) : (cc0_scratch2 : Ref sig .tc).ty.Contents (Elt F) := fun i => castV m (xn c) (halfIdx c i)

/-- A row of the result, as a row of the block it comes from. -/
def lowIdx (i : S4096x512.Idx) : S2048x512.Idx := fun a => ⟨(i a).val % S2048x512.size a, Nat.mod_lt _ (sz_pos a)⟩

/-- The device whose block device `c`'s row `r` of the result is copied from: its own block; of the other block, the
    half its partner along the first axis sends it, and the half its partner along the second axis is sent. -/
def srcDev (c : Dev nD) (r : ℕ) : Dev nD :=
  if r / 2048 = c.val / 2 then c else if r % 2048 / 1024 = c.val % 2 then xn c else xn (yn c)

/-- The gathered result on device `c`. -/
def outV (c : Dev nD) : (main_v1 : Ref sig .tc).ty.Contents (Elt F) := fun i => castV m (srcDev c (i 0).val) (lowIdx i)

/-! ## Row bands -/

/-- Rows `lo, …, lo + h - 1` of an array of `n` rows. -/
def band (n lo h : ℕ) : Finset (⟨2, ![n, 512]⟩ : Shape).Idx :=
  Finset.univ.filter fun i => lo ≤ (i 0).val ∧ (i 0).val < lo + h

/-- An index is in a band when its row is. -/
theorem mem_band {n lo h : ℕ} {i : (⟨2, ![n, 512]⟩ : Shape).Idx} :
    i ∈ band n lo h ↔ lo ≤ (i 0).val ∧ (i 0).val < lo + h := by simp [band]

/-- Bands of which one ends before the other starts share no element. -/
theorem band_disjoint {n lo h lo' h' : ℕ} (hd : lo + h ≤ lo' ∨ lo' + h' ≤ lo) : Disjoint (band n lo h) (band n lo' h') :=
  Finset.disjoint_left.mpr fun i h1 h2 => by rw [mem_band] at h1 h2; omega

/-- A rectangle of whole rows is the band of its rows. -/
theorem rect_band {n h : ℕ} {off : Fin 2 → ℕ} {inb} {lo : ℕ} (ho : off = ![lo, 0]) :
    (Rect.unit (s := ⟨2, ![n, 512]⟩) off ![h, 512] inb).set = band n lo h := by
  subst ho
  ext i
  rw [Rect.mem_set_unit, mem_band, Fin.forall_fin_two]
  have h1 : (i 1).val < 512 := (i 1).isLt
  show (lo ≤ (i 0).val ∧ (i 0).val < lo + h) ∧ (0 ≤ (i 1).val ∧ (i 1).val < 0 + 512) ↔ _
  omega

/-- The rows of the argument's group `g`. -/
theorem xG_set (c : Dev nD) (g : Fin 8) : (xG c g).view.set = band 2048 (1024 * (c.val % 2) + 128 * g.val) 128 :=
  (View.set_slice_whole _ _).trans (rect_band (k0_off1_eq c g))
/-- The rows of the staged group `g`. -/
theorem vG_set (c : Dev nD) (g : Fin 8) : (vG c g).view.set = band 2048 (1024 * (c.val % 2) + 128 * g.val) 128 :=
  (View.set_slice_whole _ _).trans (rect_band (k0_off1_eq c g))
/-- The rows of the argument's kept half. -/
theorem xH_set (c : Dev nD) : (xH c).view.set = band 2048 (1024 - 1024 * (c.val % 2)) 1024 :=
  (View.set_slice_whole _ _).trans (rect_band (k0_off2_eq c))
/-- The rows of the staged kept half. -/
theorem vH_set (c : Dev nD) : (vH c).view.set = band 2048 (1024 - 1024 * (c.val % 2)) 1024 :=
  (View.set_slice_whole _ _).trans (rect_band (k0_off2_eq c))
/-- The rows that group `g` loads and stores. -/
theorem gRect_set (c : Dev nD) (g : Fin 8) : (gRect c g).set = band 2048 (1024 * (c.val % 2) + 128 * g.val) 128 :=
  rect_band (k0_off3_eq c g)
/-- The rows that the kept half loads and stores. -/
theorem hRect_set (c : Dev nD) : (hRect c).set = band 2048 (1024 - 1024 * (c.val % 2)) 1024 :=
  rect_band (k0_off5_eq c)
/-- The rows of the cast block's group `g`. -/
theorem sG_set (c : Dev nD) (g : Fin 8) : (sM.access (gRect c g)).set = band 2048 (1024 * (c.val % 2) + 128 * g.val) 128 :=
  (View.set_slice_whole _ _).trans (gRect_set c g)
/-- The rows of the cast block's kept half. -/
theorem sH_set (c : Dev nD) : (sM.access (hRect c)).set = band 2048 (1024 - 1024 * (c.val % 2)) 1024 :=
  (View.set_slice_whole _ _).trans (hRect_set c)
/-- The rows of the cast block's chunk `k`. -/
theorem sC_set (c : Dev nD) (k : Fin 16) : (sC c k).view.set = band 2048 (1024 * (c.val % 2) + 64 * k.val) 64 :=
  (View.set_slice_whole _ _).trans (rect_band (k0_off4_eq c k))
/-- The rows of the landing buffer's chunk `k`. -/
theorem rC_set (k : Fin 16) : (rC k).view.set = band 1024 (64 * k.val) 64 :=
  (View.set_slice_whole _ _).trans (rect_band rfl)
/-- The rows of the result that chunk `k`'s relay writes. -/
theorem oC_set (c : Dev nD) (k : Fin 16) :
    (oC c k).view.set = band 4096 (1024 * (c.val % 2) + 64 * k.val + 2048 - 2048 * (c.val / 2)) 64 :=
  (View.set_slice_whole _ _).trans (rect_band (k0_off7_eq c k))
/-- The device's own rows of the result. -/
theorem oO_set (c : Dev nD) : (oO c).view.set = band 4096 (2048 * (c.val / 2)) 2048 :=
  (View.set_slice_whole _ _).trans (rect_band (k0_off6_eq c))

/-! ## What a copy writes -/

/-- Two indices into an array of rows are equal when their coordinates are. -/
theorem idx_ext {n : ℕ} {i j : (⟨2, ![n, 512]⟩ : Shape).Idx} (h0 : (i 0).val = (j 0).val) (h1 : (i 1).val = (j 1).val) : i = j :=
  funext fun a => Fin.ext (by fin_cases a <;> assumption)

/-- What lands through a view is any contents `G` that reads, through it, as the source does. -/
theorem write_read {κ : Kind} {sp : Space} {s : Shape} {e : EltTy} {Val : EltTy → Type}
    (dv : View sig κ sp s e) (fd G : dv.ty.Contents Val) (w : s.Idx → Val e) (h : ∀ x, dv.read Val G x = w x) :
    ∀ i ∈ dv.set, dv.write Val fd w Finset.univ i = G i := by
  intro i hi
  obtain ⟨x, -, rfl⟩ := Finset.mem_map.mp hi
  rw [View.write_emb_of_mem _ _ (Finset.mem_univ x), ← h x, View.read_apply, cast_cast, cast_eq]

/-- A fetched group holds the argument's rows. -/
theorem read_vG (c : Dev nD) (g : Fin 8) (x) : (vG c g).view.read (Elt F) (stgV m c) x = (xG c g).view.read (Elt F) (argV m c) x := rfl
/-- The fetched kept half holds the argument's rows. -/
theorem read_vH (c : Dev nD) (x) : (vH c).view.read (Elt F) (stgV m c) x = (xH c).view.read (Elt F) (argV m c) x := rfl

/-- The stored group is the cast of the loaded one. -/
theorem read_sG (c : Dev nD) (g : Fin 8) (x) :
    (sM.access (gRect c g)).read (Elt F) (castV m c) x = k0_pay1 (vM.view.readAt (Elt F) (gRect c g).toLoadRect (stgV m c)) x := by
  unfold k0_pay1
  rw [shapeCast_self]; rfl
/-- The stored kept half is the cast of the loaded one. -/
theorem read_sH (c : Dev nD) (x) :
    (sM.access (hRect c)).read (Elt F) (castV m c) x = k0_pay10 (vM.view.readAt (Elt F) (hRect c).toLoadRect (stgV m c)) x := by
  unfold k0_pay10
  rw [shapeCast_self]; rfl

/-- Where chunk `k` of the sent half starts. -/
theorem off4_at (c : Dev nD) (k : Fin 16) (a : Fin 2) :
    k0_off4 c (BitVec.ofNat 32 (64 * k.val)) a = (![1024 * (c.val % 2) + 64 * k.val, 0] : Fin 2 → ℕ) a := congrFun (k0_off4_eq c k) a
/-- Where chunk `k` of the relayed rows starts. -/
theorem off7_at (c : Dev nD) (k : Fin 16) (a : Fin 2) :
    k0_off7 c (BitVec.ofNat 32 (64 * k.val)) a = (![1024 * (c.val % 2) + 64 * k.val + 2048 - 2048 * (c.val / 2), 0] : Fin 2 → ℕ) a :=
  congrFun (k0_off7_eq c k) a
/-- Where the device's own rows start. -/
theorem off6_at (c : Dev nD) (a : Fin 2) :
    k0_off6 c a = (![2048 * (c.val / 2), 0] : Fin 2 → ℕ) a := congrFun (k0_off6_eq c) a

/-- Chunk `k` of the partner's landing buffer is chunk `k` of the half sent. -/
theorem read_rC (c : Dev nD) (k : Fin 16) (x) :
    (rC k).view.read (Elt F) (landV m (xn c)) x = (sC c k).view.read (Elt F) (castV m c) x := by
  show castV m (xn (xn c)) (halfIdx (xn c) ((Rect.unit (s := S1024x512) ![64 * k.val, 0] S64x512.size (rbInb k)).emb x))
    = castV m c ((Rect.unit (s := S2048x512) (k0_off4 c (BitVec.ofNat 32 (64 * k.val))) S64x512.size (k0_off4_inb c k)).emb x)
  rw [xn_xn]
  congr 1
  refine idx_ext ?_ ?_
  · show 64 * k.val + 1 * (x 0).val + 1024 * ((xn c).val % 2) = k0_off4 c (BitVec.ofNat 32 (64 * k.val)) 0 + 1 * (x 0).val
    rw [off4_at, xn_mod]
    show _ = 1024 * (c.val % 2) + 64 * k.val + 1 * (x 0).val
    omega
  · show 0 + 1 * (x 1).val + 0 = k0_off4 c (BitVec.ofNat 32 (64 * k.val)) 1 + 1 * (x 1).val
    rw [off4_at]
    show _ = 0 + 1 * (x 1).val
    omega

/-- The rows device `c` relays are chunk `k` of its landing buffer, in its own result and in its partner's. -/
theorem read_oC (c d : Dev nD) (hd : d = c ∨ d = yn c) (k : Fin 16) (x) :
    (oC c k).view.read (Elt F) (outV m d) x = (rC k).view.read (Elt F) (landV m c) x := by
  have hc := dev_lt c
  have hk := k.isLt
  have hx : (x 0).val < 64 := (x 0).isLt
  have hx1 : (x 1).val < 512 := (x 1).isLt
  have hr : k0_off7 c (BitVec.ofNat 32 (64 * k.val)) 0 + 1 * (x 0).val
      = 1024 * (c.val % 2) + 64 * k.val + 2048 - 2048 * (c.val / 2) + (x 0).val := by
    rw [off7_at]
    show 1024 * (c.val % 2) + 64 * k.val + 2048 - 2048 * (c.val / 2) + 1 * (x 0).val = _
    omega
  have hs : srcDev d (k0_off7 c (BitVec.ofNat 32 (64 * k.val)) 0 + 1 * (x 0).val) = xn c := by
    rw [hr]
    unfold srcDev
    rcases hd with rfl | rfl
    · rw [if_neg (by omega), if_pos (by omega)]
    · rw [if_neg (by rw [yn_div]; omega), if_neg (by rw [yn_mod]; omega), yn_yn]
  show castV m (srcDev d (k0_off7 c (BitVec.ofNat 32 (64 * k.val)) 0 + 1 * (x 0).val))
      (lowIdx ((Rect.unit (s := S4096x512) (k0_off7 c (BitVec.ofNat 32 (64 * k.val))) S64x512.size (k0_off7_inb c k)).emb x))
    = castV m (xn c) (halfIdx c ((Rect.unit (s := S1024x512) ![64 * k.val, 0] S64x512.size (rbInb k)).emb x))
  rw [hs]
  congr 1
  refine idx_ext ?_ ?_
  · show (k0_off7 c (BitVec.ofNat 32 (64 * k.val)) 0 + 1 * (x 0).val) % 2048 = 64 * k.val + 1 * (x 0).val + 1024 * (c.val % 2)
    rw [hr]; omega
  · show (k0_off7 c (BitVec.ofNat 32 (64 * k.val)) 1 + 1 * (x 1).val) % 512 = 0 + 1 * (x 1).val + 0
    rw [off7_at]
    show (0 + 1 * (x 1).val) % 512 = _
    omega

/-- Device `c`'s own rows of its result are its cast block. -/
theorem read_oO (c : Dev nD) (x) : (oO c).view.read (Elt F) (outV m c) x = sM.view.read (Elt F) (castV m c) x := by
  have hc := dev_lt c
  have hx : (x 0).val < 2048 := (x 0).isLt
  have hx1 : (x 1).val < 512 := (x 1).isLt
  have hr : k0_off6 c 0 + 1 * (x 0).val = 2048 * (c.val / 2) + (x 0).val := by
    rw [off6_at]
    show 2048 * (c.val / 2) + 1 * (x 0).val = _
    omega
  show castV m (srcDev c (k0_off6 c 0 + 1 * (x 0).val))
      (lowIdx ((Rect.unit (s := S4096x512) (k0_off6 c) S2048x512.size (k0_off6_inb c)).emb x)) = castV m c x
  rw [show srcDev c (k0_off6 c 0 + 1 * (x 0).val) = c by rw [hr]; unfold srcDev; rw [if_pos (by omega)]]
  congr 1
  refine idx_ext ?_ ?_
  · show (k0_off6 c 0 + 1 * (x 0).val) % 2048 = (x 0).val
    rw [hr]; omega
  · show (k0_off6 c 1 + 1 * (x 1).val) % 512 = (x 1).val
    rw [off6_at]
    show (0 + 1 * (x 1).val) % 512 = _
    omega

end Cert.RelayProof

end
-- ==== Proof.Proto.lean ====
/-
# The protocol

Which semaphores the devices share, what each of their units hands over, and what each device owes.

* The barrier semaphore of a device takes two units: its partner along the first axis hands over that partner's landing
  buffer, its partner along the second the rows of that partner's result which the device relays.
* The four banks of sixteen transfer semaphores take one chunk's credit each: the send semaphores hand the chunk
  back, the receive semaphores hand over the chunk that landed.
* The local copies (the fetches, the own block, the chunks kept) stay on the core.
-/
module

public import proofs.«01_k».proof.Proof.Mesh
public import Idealize.ShloMosaic.Lib.Transfers
public import Idealize.ShloMosaic.Lib.Rounds

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The resource of the shared cells. -/
abbrev UB : Type := URounds (GSem nD τ sig) Bool
/-- The resources together: the pipeline's, the shared cells' and the local copies'. -/
abbrev UU : Type := UR sig nD τ × (UB × Counters)

local notation "𝕄" => MT nD τ sig Unit (Elt F) ℕ UU ℕ

/-- The pipeline's part. -/
abbrev EP : Emb (UR sig nD τ) (MT nD τ sig Unit (Elt F) ℕ UU ℕ) := embL
/-- The shared cells' part. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The shared cells' part lies in the whole algebra. -/
instance ER_landsIn : (ER : Emb UB 𝕄).LandsIn (upEmb : UEmb _ 𝕄) := by unfold ER; infer_instance
/-- The local copies' part. -/
abbrev EC : UEmb Counters (MT nD τ sig Unit (Elt F) ℕ UU ℕ) := countersEmb

/-- No loop of the program needs a variant. -/
abbrev 𝒱₀ : Variants := Variants.none

/-! ## The cells -/

/-- The four banks of transfer semaphores: first phase send and receive, second phase send and receive. -/
def bank (b : Fin 4) (k : Fin 16) : DmaSem sig := match b with
  | 0 => s1S k
  | 1 => r1S k
  | 2 => s2S k
  | 3 => r2S k

/-- The number of semaphore `k` of bank `b`. -/
theorem bank_val (b : Fin 4) (k : Fin 16) : (bank b k).val = 16 * b.val + k.val := by
  revert b k; decide
/-- The number of the semaphore of chunk `k`'s local copy. -/
theorem dS_val (k : Fin 16) : (dS k).val = 64 + k.val := by revert k; decide
/-- The number of the own block's semaphore. -/
theorem ownS_val : ownS.val = 80 := by decide
/-- The number of fetch `k`'s semaphore. -/
theorem inS_val (k : Fin 9) : (inS k).val = 81 + k.val := by revert k; decide

/-- The semaphores of the banks are distinct. -/
theorem bank_injective {b b' : Fin 4} {k k' : Fin 16} (h : bank b k = bank b' k') : b = b' ∧ k = k' := by
  have h' := congrArg Fin.val h
  rw [bank_val, bank_val] at h'
  have := k.isLt; have := k'.isLt
  exact ⟨Fin.ext (by omega), Fin.ext (by omega)⟩

/-- Device `c`'s barrier semaphore. -/
abbrev barCell (c : Dev nD) : GSem nD τ sig := ((c : Thread nD τ), .reg barS)
/-- Device `c`'s semaphore `k` of bank `b`. -/
abbrev bankCell (b : Fin 4) (c : Dev nD) (k : Fin 16) : GSem nD τ sig := ((c : Thread nD τ), .dma (bank b k))

/-- The shared cells of one device: the barrier, and the banks. -/
abbrev CI : Type := Unit ⊕ (Fin 4 × Fin 16)
/-- The semaphore of each. -/
abbrev csem : CI → SemLoc sig
  | .inl _ => .reg barS
  | .inr bk => .dma (bank bk.1 bk.2)
/-- The same, on a given device. -/
abbrev kcell (ci : Dev nD × CI) : GSem nD τ sig := ((ci.1 : Thread nD τ), csem ci.2)

/-- The shared semaphores of a device are distinct, -/
theorem csem_injective : Function.Injective csem := by
  rintro (⟨⟩ | ⟨b, k⟩) (⟨⟩ | ⟨b', k'⟩) h
  · rfl
  · exact absurd h (fun h => by cases h)
  · exact absurd h (fun h => by cases h)
  · obtain ⟨rfl, rfl⟩ := bank_injective (SemLoc.dma.inj h); rfl
/-- and those of all devices. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- A chunk's credit, whichever buffer it lands in. -/
abbrev N : ℕ := (rC 0).view.dmaCredit
/-- A chunk's credit is not zero. -/
theorem N_pos : 0 < N := View.dmaCredit_pos _ (by decide)
/-- A chunk of the landing buffer has this credit, -/
theorem rC_credit (k : Fin 16) : (rC k).view.dmaCredit = N := rfl
/-- and a chunk of the cast block, -/
theorem sC_credit (c : Dev nD) (k : Fin 16) : (sC c k).view.dmaCredit = N := rfl
/-- and a chunk of the result. -/
theorem oC_credit (c : Dev nD) (k : Fin 16) : (oC c k).view.dmaCredit = N := rfl

/-! ## The pieces of the buffers -/

variable (m : (ℓ : Loc nD τ sig) → Buf (Elt F) ℓ)

/-- Device `c`'s argument rows of group `g`, and of the kept half, as at launch. -/
def xGp (c : Dev nD) (g : Fin 8) : sProp 𝕄 :=
  (xG c g).view.loc (c : Thread nD τ) ↦[(xG c g).view.set]{fullShare} argV m c
/-- Device `c`'s kept half of the argument, as at launch. -/
def xHp (c : Dev nD) : sProp 𝕄 :=
  (xH c).view.loc (c : Thread nD τ) ↦[(xH c).view.set]{fullShare} argV m c
/-- The staged rows of group `g`, and of the kept half, at contents `f`. -/
def vGp (c : Dev nD) (g : Fin 8) (f : (cc0_scratch0 : Ref sig .tc).ty.Contents (Elt F)) : sProp 𝕄 :=
  (vG c g).view.loc (c : Thread nD τ) ↦[(vG c g).view.set]{fullShare} f
/-- The staged kept half, at contents `f`. -/
def vHp (c : Dev nD) (f : (cc0_scratch0 : Ref sig .tc).ty.Contents (Elt F)) : sProp 𝕄 :=
  (vH c).view.loc (c : Thread nD τ) ↦[(vH c).view.set]{fullShare} f
/-- The cast rows of group `g`, of the kept half and of chunk `k` of the sent half. -/
def sGp (c : Dev nD) (g : Fin 8) (f : (cc0_scratch1 : Ref sig .tc).ty.Contents (Elt F)) : sProp 𝕄 :=
  (sM.access (gRect c g)).loc (c : Thread nD τ) ↦[(sM.access (gRect c g)).set]{fullShare} f
/-- The cast kept half, at share `q`. -/
def sHp (q : PosShare TreeShare) (c : Dev nD) (f : (cc0_scratch1 : Ref sig .tc).ty.Contents (Elt F)) : sProp 𝕄 :=
  (sM.access (hRect c)).loc (c : Thread nD τ) ↦[(sM.access (hRect c)).set]{q} f
/-- Chunk `k` of the cast block, at share `q`. -/
def sCp (q : PosShare TreeShare) (c : Dev nD) (k : Fin 16) (f : (cc0_scratch1 : Ref sig .tc).ty.Contents (Elt F)) : sProp 𝕄 :=
  (sC c k).view.loc (c : Thread nD τ) ↦[(sC c k).view.set]{q} f
/-- The whole cast block, at share `q`. -/
def sMp (q : PosShare TreeShare) (c : Dev nD) : sProp 𝕄 :=
  sM.view.loc (c : Thread nD τ) ↦[sM.view.set]{q} castV m c
/-- Chunk `k` of the landing buffer. -/
def rCp (q : PosShare TreeShare) (c : Dev nD) (k : Fin 16) (f : (cc0_scratch2 : Ref sig .tc).ty.Contents (Elt F)) : sProp 𝕄 :=
  (rC k).view.loc (c : Thread nD τ) ↦[(rC k).view.set]{q} f
/-- Device `d`'s result at chunk `k` of the rows device `c` relays. -/
def oCp (c d : Dev nD) (k : Fin 16) (f : (main_v1 : Ref sig .tc).ty.Contents (Elt F)) : sProp 𝕄 :=
  (oC c k).view.loc (d : Thread nD τ) ↦[(oC c k).view.set]{fullShare} f
/-- Device `c`'s result at its own rows. -/
def oOp (c : Dev nD) (f : (main_v1 : Ref sig .tc).ty.Contents (Elt F)) : sProp 𝕄 :=
  (oO c).view.loc (c : Thread nD τ) ↦[(oO c).view.set]{fullShare} f

omit [FloatOps F] in
/-- A landed chunk may be kept in an invariant, -/
instance rCp_storable (q) (c : Dev nD) (k : Fin 16) (f) : BI.Storable (upEmb : UEmb _ 𝕄) (rCp (F := F) q c k f) := by
  unfold rCp; infer_instance
omit [FloatOps F] in
/-- and a cast chunk, -/
instance sCp_storable (q) (c : Dev nD) (k : Fin 16) (f) : BI.Storable (upEmb : UEmb _ 𝕄) (sCp (F := F) q c k f) := by
  unfold sCp; infer_instance
omit [FloatOps F] in
/-- and a chunk of the result. -/
instance oCp_storable (c d : Dev nD) (k : Fin 16) (f) : BI.Storable (upEmb : UEmb _ 𝕄) (oCp (F := F) c d k f) := by
  unfold oCp; infer_instance

/-! ## The schedule -/

/-- What `c`'s partner along the first axis hands over at the barrier: its landing buffer. -/
def rPay (c : Dev nD) : sProp 𝕄 := bigSep Finset.univ fun k : Fin 16 => iprop(∃ f, rCp fullShare (xn c) k f)
/-- What `c`'s partner along the second hands over: the rows of its result that `c` relays. -/
def oPay (c : Dev nD) : sProp 𝕄 := bigSep Finset.univ fun k : Fin 16 => iprop(∃ f, oCp c (yn c) k f)

/-- What the one unit of a bank's cell hands over. -/
def bankPay (c : Dev nD) (b : ℕ) (k : Fin 16) : sProp 𝕄 := match b with
  | 0 => sCp fullShare.left c k (castV m c)
  | 1 => rCp fullShare c k (landV m c)
  | 2 => rCp fullShare.left c k (landV m c)
  | 3 => oCp (yn c) c k (outV m c)
  | _ => iprop(emp)

/-- One round: a barrier cell has the duty `false` of the first axis's partner and `true` of the second's, one unit
    each; a bank's cell the duty `false` of a chunk's credit. -/
def relayRd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => if d then oPay g.1.1 else rPay g.1.1
    | .dma q => bankPay m g.1.1 (q.val / 16) ⟨q.val % 16, Nat.mod_lt _ (by decide)⟩
  amount_pos g _ _ _ := by
    rcases g with ⟨t, _ | _⟩
    · exact Nat.one_pos
    · exact N_pos

/-- So may what a bank's cell hands over, -/
instance bankPay_storable (c : Dev nD) (b : ℕ) (k : Fin 16) : BI.Storable (upEmb : UEmb _ 𝕄) (bankPay m c b k) := by
  unfold bankPay; split <;> infer_instance
/-- and what any cell hands over. -/
instance relayRd_payload_storable (g : GSem nD τ sig) (r : ℕ) (d : Bool) :
    BI.Storable (upEmb : UEmb _ 𝕄) ((relayRd (F := F) m).payload g r d) := by
  rcases g with ⟨t, _ | q⟩
  · show BI.Storable upEmb (if d then oPay t.1 else rPay t.1)
    unfold oPay rPay
    split <;> infer_instance
  · show BI.Storable upEmb (bankPay m t.1 (q.val / 16) ⟨q.val % 16, _⟩)
    infer_instance

/-- A barrier cell has two duties, -/
theorem duties_bar (c : Dev nD) : (relayRd (F := F) m).duties (barCell c) 0 = Finset.univ := rfl
/-- a bank's cell one, -/
theorem duties_bank (b : Fin 4) (c : Dev nD) (k : Fin 16) : (relayRd (F := F) m).duties (bankCell b c k) 0 = {false} := rfl
/-- and no cell any after the first round. -/
theorem duties_later (g : GSem nD τ sig) : ∀ r, 1 ≤ r → (relayRd (F := F) m).duties g r = ∅ :=
  fun r hr => if_neg (by omega)
/-- A barrier's duty is one unit, -/
theorem amount_bar (c : Dev nD) (d : Bool) : (relayRd (F := F) m).amount (barCell c) 0 d = 1 := rfl
/-- a bank's a chunk's credit. -/
theorem amount_bank (b : Fin 4) (c : Dev nD) (k : Fin 16) (d : Bool) : (relayRd (F := F) m).amount (bankCell b c k) 0 d = N := rfl
/-- What the partner along the second axis hands over at the barrier. -/
theorem payload_bar_true (c : Dev nD) : (relayRd (F := F) m).payload (barCell c) 0 true = oPay c := rfl
/-- What the partner along the first axis hands over at the barrier. -/
theorem payload_bar_false (c : Dev nD) : (relayRd (F := F) m).payload (barCell c) 0 false = rPay c := rfl
/-- What a bank's cell hands over. -/
theorem payload_bank (b : Fin 4) (c : Dev nD) (k : Fin 16) (d : Bool) :
    (relayRd (F := F) m).payload (bankCell b c k) 0 d = bankPay m c b.val k := by
  show bankPay m c ((bank b k).val / 16) ⟨(bank b k).val % 16, _⟩ = _
  have hk := k.isLt
  have h1 : (bank b k).val / 16 = b.val := by rw [bank_val]; omega
  have h2 : (⟨(bank b k).val % 16, Nat.mod_lt _ (by decide)⟩ : Fin 16) = k := Fin.ext (by
    show (bank b k).val % 16 = k.val
    rw [bank_val]; omega)
  rw [h1, h2]

/-- A barrier's round is two units, -/
theorem expect_bar (c : Dev nD) : (relayRd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- a bank's cell's a chunk's credit. -/
theorem expect_bank (b : Fin 4) (c : Dev nD) (k : Fin 16) : (relayRd (F := F) m).expect (bankCell b c k) 0 = N := by
  unfold Schedule.expect Schedule.amountOf; rw [duties_bank, Finset.sum_singleton, amount_bank]

/-- All a barrier cell's round hands over. -/
theorem rest_bar (c : Dev nD) :
    bigSep ((relayRd (F := F) m).duties (barCell c) 0 \ ∅) (fun d => (relayRd (F := F) m).payload (barCell c) 0 d)
      = iprop(rPay c ∗ oPay c) := by
  rw [Finset.sdiff_empty, duties_bar, bigSep_univ_eq_bigSepL [false, true] (by decide) (by decide), bigSepL_cons_cons, bigSepL_singleton,
    payload_bar_false, payload_bar_true]
  rfl
/-- All a bank's cell's round hands over. -/
theorem rest_bank (b : Fin 4) (c : Dev nD) (k : Fin 16) :
    bigSep ((relayRd (F := F) m).duties (bankCell b c k) 0 \ ∅) (fun d => (relayRd (F := F) m).payload (bankCell b c k) 0 d)
      = bankPay m c b.val k := by
  rw [Finset.sdiff_empty, duties_bank, bigSep_singleton, payload_bank]

/-! ## The levels -/

/-- The receive semaphores of the first phase at 2, of the second at 3, every other transfer semaphore at 0. -/
def lvD (n : ℕ) : ℕ := if 16 ≤ n ∧ n < 32 then 2 else if 48 ≤ n ∧ n < 64 then 3 else 0
/-- Barrier cells at 1. -/
def lvS : SemLoc sig → ℕ
  | .reg _ => 1
  | .dma q => lvD q.val
/-- Every semaphore of a TensorCore has one level. -/
def L (g : GSem nD τ sig) : Finset Unit := if g.1.2 = .tc then {()} else ∅
/-- A semaphore's level. -/
def lv (g : GSem nD τ sig) (_ : Unit) : ℕ := lvS g.2

/-- Off the TensorCores no level is given, -/
theorem L_of_ne (g : GSem nD τ sig) (h : g.1.2 ≠ .tc) : L g = ∅ := if_neg h
/-- on them one is. -/
theorem L_tc (c : Dev nD) (sm : SemLoc sig) : L ((c : Thread nD τ), sm) = {()} := if_pos rfl

/-- The barrier is at level 1, -/
theorem lv_bar : lvS (.reg barS) = 1 := rfl
/-- the first phase's receives at 2, -/
theorem lv_r1 (k : Fin 16) : lvS (.dma (bank 1 k)) = 2 := by
  have := k.isLt
  show lvD (bank 1 k).val = 2
  rw [bank_val]; unfold lvD; rw [if_pos (by show 16 ≤ 16 * 1 + k.val ∧ _; omega)]
/-- the second phase's at 3, -/
theorem lv_r2 (k : Fin 16) : lvS (.dma (bank 3 k)) = 3 := by
  have := k.isLt
  show lvD (bank 3 k).val = 3
  rw [bank_val]; unfold lvD
  rw [if_neg (by show ¬(16 ≤ 16 * 3 + k.val ∧ _); omega), if_pos (by show 48 ≤ 16 * 3 + k.val ∧ _; omega)]
/-- the fetches at 0. -/
theorem lv_in (k : Fin 9) : lvS (.dma (inS k)) = 0 := by
  show lvD (inS k).val = 0
  rw [inS_val]; unfold lvD; rw [if_neg (by omega), if_neg (by omega)]

/-- Every cell `O` owes lies above level `n`, on a TensorCore. -/
def Above (n : ℕ) (O : CellTallies nD τ sig Unit) : Prop := ∀ g u, 0 < O g u → g.1.2 = .tc ∧ n < lvS g.2

/-- Who owes nothing owes only above any level. -/
theorem above_zero (n : ℕ) : Above n 0 := fun g u h => absurd h (Nat.lt_irrefl 0)
/-- A debt to a cell above level `n` is above it. -/
theorem above_tally {n : ℕ} {c : Dev nD} {sm : SemLoc sig} {k : ℕ} (h : n < lvS sm) :
    Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
/-- Two debts above a level are above it together. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

/-- A core may wait on a cell below everything it owes. -/
theorem mayWait (c : Dev nD) (sm : SemLoc sig) {n : ℕ} (hn : lvS sm = n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hn)
    (fun g u hg => (hO g u hg).2)

/-! ## What each core owes -/

/-- A chunk of the second phase, and of the first. -/
def t2 (c : Dev nD) (k : Fin 16) : CellTallies nD τ sig Unit := tallyAt (bankCell 3 (yn c) k) () N
/-- A chunk of the first phase, owed to the partner along the first axis. -/
def t1 (c : Dev nD) (k : Fin 16) : CellTallies nD τ sig Unit := tallyAt (bankCell 1 (xn c) k) () N

/-- The chunks still to be relayed. -/
def owedR (c : Dev nD) : List (Fin 16) → CellTallies nD τ sig Unit
  | [] => 0
  | k :: l => owedR c l + t2 c k
/-- The groups still to be sent, and all chunks to be relayed. -/
def owedG (c : Dev nD) : List (Fin 8) → CellTallies nD τ sig Unit
  | [] => owedR c l16
  | g :: l => owedG c l + t1 c ⟨2 * g.val + 1, by omega⟩ + t1 c ⟨2 * g.val, by omega⟩
/-- At launch: also one unit to each partner's barrier. -/
def O₁ (c : Dev nD) : CellTallies nD τ sig Unit := owedG c l8 + tallyAt (barCell (yn c)) () 1
/-- All device `c` owes at launch. -/
def O₀ (c : Dev nD) : CellTallies nD τ sig Unit := O₁ c + tallyAt (barCell (xn c)) () 1

/-- What is left to relay lies above the first phase's receives. -/
theorem above_owedR (c : Dev nD) {n : ℕ} (hn : n < 3) : ∀ l, Above n (owedR c l)
  | [] => above_zero n
  | k :: l => above_add (above_owedR c hn l) (above_tally (by rw [lv_r2]; exact hn))
/-- What is left to send and to relay lies above the barrier. -/
theorem above_owedG (c : Dev nD) {n : ℕ} (hn : n < 2) : ∀ l, Above n (owedG c l)
  | [] => above_owedR c (by omega) _
  | g :: l => above_add (above_add (above_owedG c hn l) (above_tally (by rw [lv_r1]; exact hn))) (above_tally (by rw [lv_r1]; exact hn))

end Cert.RelayProof

end
-- ==== Proof.Steps.lean ====
/-
# The steps

What each step of the body needs and leaves, on device `c`, and the rule for the loops.
-/
module

public import proofs.«01_k».proof.Proof.Proto
public import Idealize.ShloMosaic.Lib.Pipeline.BigSepL

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-- Program `p` on device `c` runs safely and ends in `Q`. -/
abbrev WP (c : Dev nD) (p : TProg F) (Q : sProp 𝕄) : sProp 𝕄 :=
  wp frame (wpE (defs₀ (F := F)) 𝒱₀ (c : Thread nD τ) none) Set.univ p fun _ => Q

/-- What device `c` still owes, whatever it waited for so far. -/
def owesE (c : Dev nD) (O : CellTallies nD τ sig Unit) : sProp 𝕄 := iprop(∃ W, owes (c : Thread nD τ) O W)

/-- One program after another. -/
theorem WP_seq {c : Dev nD} {p q : TProg F} {P R Q : sProp 𝕄} (hp : P ⊢ WP c p R) (hq : R ⊢ WP c q Q) :
    P ⊢ WP c (p >>= fun _ => q) Q := by
  show P ⊢ wp frame (wpE (defs₀ (F := F)) 𝒱₀ (c : Thread nD τ) none) Set.univ (p >>= fun _ => q) fun _ => Q
  rw [wp_bind]
  exact hp.trans (wp_mono frame _ Set.univ fun _ => hq)

/-- A program that needs only part of what is held. -/
theorem WP_frame {c : Dev nD} {p : TProg F} {P Q R : sProp 𝕄} (hp : P ⊢ WP c p Q) : iprop(P ∗ R) ⊢ WP c p iprop(Q ∗ R) :=
  (sep_mono_left hp).trans (wp_frame_r frame _ Set.univ)

/-- A loop takes the pieces of its members one by one and leaves what each step makes of its piece, `R` following the
    members still to come. -/
theorem loop_wp {ι : Type} (c : Dev nD) (f : ι → TProg F) (R : List ι → sProp 𝕄) (P Q : ι → sProp 𝕄)
    (h : ∀ a l, iprop(R (a :: l) ∗ P a) ⊢ WP c (f a) iprop(R l ∗ Q a)) :
    ∀ l, iprop(R l ∗ bigSepL l P) ⊢ WP c (loop f l) iprop(R [] ∗ bigSepL l Q)
  | [] => by
    show _ ⊢ wp frame _ Set.univ (Prog.ret PUnit.unit) _
    rw [wp_ret]
    iintro H; imodintro; iexact H
  | a :: l => by
    rw [bigSepL_cons', bigSepL_cons']
    refine WP_seq (R := iprop((R l ∗ bigSepL l P) ∗ Q a)) ?_ ?_
    · refine BIBase.Entails.trans ?_ ((WP_frame (R := bigSepL l P) (h a l)).trans (wp_mono frame _ Set.univ fun _ => ?_))
      · iintro ⟨HR, HP, Hl⟩; isplitr [Hl]; · isplitl [HR] <;> iassumption
        iexact Hl
      · iintro ⟨⟨HR, HQ⟩, Hl⟩; isplitr [HQ]; · isplitl [HR] <;> iassumption
        iexact HQ
    · refine (WP_frame (R := Q a) (loop_wp c f R P Q h l)).trans (wp_mono frame _ Set.univ fun _ => ?_)
      iintro ⟨⟨HR, Hl⟩, HQ⟩; isplitl [HR]; · iexact HR
      isplitl [HQ] <;> iassumption

/-! ## Local copies -/

/-- A local copy started: its flight will deliver the destination at any contents that read there as the source does. -/
theorem copy_wp (c : Dev nD) {sp sp' : Space} {s : Shape} {e : EltTy} {src : Memref sig .tc sp s e} {dst : Memref sig .tc sp' s e}
    {q : DmaSem sig} {hsrc : src.view.WordExact} {hdst : dst.view.WordExact}
    {hsem : DmaTarget.Typed (nD := nD) (τ := τ) (p := .tc) sp (.dma q) (.here dst)}
    (h0 : 0 < dst.view.dmaCredit) (sh : PosShare TreeShare) (fs : Buf (Elt F) (src.view.loc (c : Thread nD τ))) (G : Buf (Elt F) (dst.view.loc (c : Thread nD τ)))
    (hG : ∀ x, dst.view.read (Elt F) G x = src.view.read (Elt F) fs x) :
    iprop((src.view.loc (c : Thread nD τ) ↦[src.view.set]{sh} fs)
        ∗ (∃ fd : Buf (Elt F) (dst.view.loc (c : Thread nD τ)), dst.view.loc (c : Thread nD τ) ↦[dst.view.set]{fullShare} fd)
        ∗ semVal ((c : Thread nD τ), .dma q) 0)
      ⊢ WP c (Prog.lift (.enqueueDma src (.here dst) (.dma q) hsrc hdst hsem))
          (Flight EC (c : Thread nD τ) (.dma q) () dst.view.dmaCredit
            iprop((dst.view.loc (c : Thread nD τ) ↦[dst.view.set]{fullShare} G) ∗ (src.view.loc (c : Thread nD τ) ↦[src.view.set]{sh} fs)) : sProp 𝕄) := by
  unfold Prog.lift
  iintro ⟨Hs, ⟨%fd, Hd⟩, Hv⟩
  iapply (Transfers.wp_dmaLocal EC 𝒱₀ (c : Thread nD τ) none () dst.view.dmaCredit rfl h0 (Finset.Subset.refl _)) $$ [Hs Hd Hv]
  · isplitl [Hs]; · iexact Hs
    isplitl [Hd] <;> iassumption
  iintro HF
  rw [wp_ret]
  imodintro
  iapply (Transfers.Flight_mono EC (c : Thread nD τ) (sep_mono_left (Entails.of_eq (pointsTo_congr (write_read dst.view fd G _ hG)))))
  iexact HF

/-- The wait for a local copy: what it delivers, and its semaphore back at zero. -/
theorem copyWait_wp (c : Dev nD) {sp sp' : Space} {s s' : Shape} {e e' : EltTy} {q : DmaSem sig} {srcw : Memref sig .tc sp' s' e'}
    {dstw : Memref sig .tc sp s e} {hsrc : srcw.view.WordExact} {hdst : dstw.view.WordExact} {n : ℕ} (hn : dstw.view.dmaCredit = n)
    {D : sProp 𝕄} {O : CellTallies nD τ sig Unit} (hO : (levAts L lv : sProp 𝕄) ⊢ MayWait (c : Thread nD τ) (.dma q) () O) :
    iprop((levAts L lv ∗ owesE c O) ∗ Flight EC (c : Thread nD τ) (.dma q) () n D)
      ⊢ WP c (Prog.lift (.waitDma2 q srcw dstw hsrc hdst)) iprop(owesE c O ∗ D ∗ semVal ((c : Thread nD τ), .dma q) 0) := by
  unfold Prog.lift owesE
  iintro ⟨⟨#Hlev, ⟨%W, HO⟩⟩, HF⟩
  iapply (Transfers.wp_waitLocalO EC 𝒱₀ (c : Thread nD τ) none () hn (O := O) (W := W)) $$ [HO HF]
  · isplitl [HF]; · iexact HF
    isplitl [HO]; · iexact HO
    iapply hO; iexact Hlev
  iintro ⟨HD, Hv, HO⟩
  rw [wp_ret]
  imodintro
  isplitl [HO]; · iexists _; iexact HO
  isplitl [HD] <;> iassumption

variable (m : (ℓ : Loc nD τ sig) → Buf (Elt F) ℓ)

/-! ## The shared records -/

/-- Every shared cell's invariant, under the names `K`. -/
def allInv (K : Dev nD × CI → ℕ) : sProp 𝕄 :=
  bigSep Finset.univ fun ci : Dev nD × CI => cellInv ER (relayRd (F := F) m) (K ci) (kcell ci)
/-- Every shared cell is at its first round. -/
def allReached : sProp 𝕄 := bigSep Finset.univ fun ci : Dev nD × CI => reached (ER (F := F)) (kcell ci) 0
/-- The invariants may be used again and again, -/
instance allInv_persistent (K : Dev nD × CI → ℕ) : BI.Persistent (allInv (F := F) m K) := by unfold allInv; infer_instance
/-- and so may the rounds reached, -/
instance allReached_persistent : BI.Persistent (allReached (F := F)) := by unfold allReached; infer_instance

/-- The records and the levels: what every step may read. -/
def env (K : Dev nD × CI → ℕ) : sProp 𝕄 := iprop(allInv m K ∗ allReached ∗ levAts L lv)
/-- and all of these records. -/
instance env_persistent (K : Dev nD × CI → ℕ) : BI.Persistent (env (F := F) m K) := by unfold env; infer_instance

variable (K : Dev nD × CI → ℕ)

/-- The records hold every cell's invariant, -/
theorem env_inv (c : Dev nD) (i : CI) : env m K ⊢ cellInv ER (relayRd (F := F) m) (K (c, i)) (kcell (c, i)) := by
  unfold env allInv
  iintro ⟨H, -, -⟩
  ihave H := (Entails.of_eq (bigSep_univ_at _ ((c, i) : Dev nD × CI))) $$ H
  icases H with ⟨H, -⟩
  iexact H
/-- and that it reached its first round, -/
theorem env_reached (c : Dev nD) (i : CI) : env m K ⊢ reached (ER (F := F)) (kcell (c, i)) 0 := by
  unfold env allReached
  iintro ⟨-, H, -⟩
  ihave H := (Entails.of_eq (bigSep_univ_at _ ((c, i) : Dev nD × CI))) $$ H
  icases H with ⟨H, -⟩
  iexact H
/-- and the levels. -/
theorem env_lev : env m K ⊢ (levAts L lv : sProp 𝕄) := by
  unfold env
  iintro ⟨-, -, H⟩; iexact H

/-! ## Waits on the shared cells -/

/-- The wait on bank `b`'s cell: what its unit hands over, and its semaphore back at zero. -/
theorem bankWait_wp (b : Fin 4) (c : Dev nD) (k : Fin 16) {sp sp' : Space} {s s' : Shape} {e e' : EltTy} {q : DmaSem sig} (hq : q = bank b k)
    {srcw : Memref sig .tc sp' s' e'} {dstw : Memref sig .tc sp s e} {hsrc : srcw.view.WordExact} {hdst : dstw.view.WordExact}
    (hn : dstw.view.dmaCredit = N) {O : CellTallies nD τ sig Unit} (hO : (levAts L lv : sProp 𝕄) ⊢ MayWait (c : Thread nD τ) (.dma (bank b k)) () O) :
    iprop((env m K ∗ owesE c O) ∗ cred (tallyAt (bankCell b c k) () N) ∗ atPos ER (bankCell b c k) 0 ∅ 0)
      ⊢ WP c (Prog.lift (.waitDma2 q srcw dstw hsrc hdst))
          iprop(owesE c O ∗ bankPay m c b.val k ∗ semVal (bankCell b c k) 0) := by
  subst hq
  unfold Prog.lift owesE
  iintro ⟨⟨#HE, ⟨%W, HO⟩⟩, Hc, Hat⟩
  ihave #HI := (env_inv m K c (Sum.inr (b, k))) $$ HE
  iapply (Rounds.wp_wait_rest_token 𝒱₀ ER (relayRd m) (c : Thread nD τ) none (κ := K (c, Sum.inr (b, k)))
      (wpE_waitDma2_eq 𝒱₀ (c : Thread nD τ) none Set.univ) (Set.mem_univ _) () (O := O) (W := W) (R := 0) (m := 0) (T := ∅)
      (by rw [Nat.zero_add, expect_bank, hn])) $$ [Hc HO Hat]
  · rw [hn]
    isplitr; · iexact HI
    isplitl [Hc]; · iexact Hc
    isplitl [HO]; · iexact HO
    isplitr; · iapply hO; iapply (env_lev m K); iexact HE
    iexact Hat
  iintro ⟨HO, Hat, -, Hp⟩
  ihave Hp := (Entails.of_eq (rest_bank m b c k)) $$ Hp
  imod (Rounds.cell_close ER (relayRd m) (Set.mem_univ (K (c, Sum.inr (b, k)))) (fun h => h) (R := 0 + 1) (duties_later m (bankCell b c k))) $$ [Hat] with Hz
  · isplitr; · iexact HI
    iexact Hat
  rw [wp_ret]
  imodintro
  isplitl [HO]; · iexists _; iexact HO
  isplitl [Hp] <;> iassumption

/-! ## Sends -/

/-- A chunk sent to device `n` on bank `b`'s semaphore, landing on bank `b'`'s: the debt of its landing is paid, and the
    send's credit is held. The landed chunk is any contents that read there as the source does. -/
theorem remote_wp (c n d : Dev nD) (hd : d = n) (b b' : Fin 4) (k : Fin 16) {qs qr : DmaSem sig} (hqs : qs = bank b k) (hqr : qr = bank b' k)
    {sp sp' : Space} {src : Memref sig .tc sp S64x512 .bf16} {dst : Memref sig .tc sp' S64x512 .bf16}
    {hsc : (dst : Memref sig (Dev.tc d : Thread nD τ).2.kind sp' S64x512 .bf16).view.ref.isScScratch = false}
    {hsrc : src.view.WordExact} {hdst : dst.view.WordExact}
    {hsem : DmaTarget.Typed (p := .tc) sp (.dma qr) (.remote (Dev.tc d : Thread nD τ) dst (.dma qs) hsc)}
    (hN : dst.view.dmaCredit = N) (q : PosShare TreeShare) (fs : Buf (Elt F) (src.view.loc (c : Thread nD τ))) (G : Buf (Elt F) (dst.view.loc (n : Thread nD τ)))
    (hG : ∀ x, dst.view.read (Elt F) G x = src.view.read (Elt F) fs x)
    (hs : (src.view.loc (c : Thread nD τ) ↦[src.view.set]{q} fs : sProp 𝕄) = bankPay m c b.val k)
    (hr : (dst.view.loc (n : Thread nD τ) ↦[dst.view.set]{fullShare} G : sProp 𝕄) = bankPay m n b'.val k)
    (O : CellTallies nD τ sig Unit) :
    iprop((env m K ∗ owesE c (O + tallyAt (bankCell b' n k) () N)) ∗ bankPay m c b.val k
        ∗ dutyTok ER (bankCell b c k) 0 false ∗ dutyTok ER (bankCell b' n k) 0 false
        ∗ ∃ fd : Buf (Elt F) (dst.view.loc (n : Thread nD τ)), dst.view.loc (n : Thread nD τ) ↦[dst.view.set]{fullShare} fd)
      ⊢ WP c (Prog.lift (.enqueueDma src (.remote (Dev.tc d : Thread nD τ) dst (.dma qs) hsc) (.dma qr) hsrc hdst hsem))
          iprop(owesE c O ∗ cred (tallyAt (bankCell b c k) () N)) := by
  subst hd hqs hqr
  rw [← hs]
  unfold Prog.lift owesE
  iintro ⟨⟨#HE, ⟨%W, HO⟩⟩, Hs, HtS, HtR, ⟨%fd, Hr⟩⟩
  ihave #HI1 := (env_inv m K c (Sum.inr (b, k))) $$ HE
  ihave #HI2 := (env_inv m K d (Sum.inr (b', k))) $$ HE
  ihave #HR1 := (env_reached m K c (Sum.inr (b, k))) $$ HE
  ihave #HR2 := (env_reached m K d (Sum.inr (b', k))) $$ HE
  iapply (Rounds.wp_send_pointsTo 𝒱₀ ER (relayRd m) (c : Thread nD τ) none (c' := (d : Thread nD τ)) (dst := dst) (sS := .dma (bank b k)) (sem := .dma (bank b' k))
    (κ₁ := K (c, Sum.inr (b, k))) (κ₂ := K (d, Sum.inr (b', k)))
    (r₁ := 0) (r₂ := 0) (d₁ := false) (d₂ := false) (fd := fd)
    (by rw [duties_bank]; exact Finset.mem_singleton_self _)
    (by rw [duties_bank]; exact Finset.mem_singleton_self _)
    () () N hN (amount_bank m b c k false) (amount_bank m b' d k false) O rfl (W := W)
    (by rw [payload_bank]; exact Entails.of_eq hs)
    (by
      rw [payload_bank, ← hr]
      exact Entails.of_eq (pointsTo_congr (write_read dst.view fd G _ hG))))
    $$ [HO Hs HtS HtR Hr]
  · isplitr; · iexact HI1
    isplitr; · iexact HI2
    isplitl [Hs]; · iexact Hs
    isplitl [Hr]; · iexact Hr
    isplitl [HO]; · iexact HO
    isplitl [HtS]; · iexact HtS
    isplitr; · iexact HR1
    isplitl [HtR]; · iexact HtR
    iexact HR2
  iintro ⟨Hc, HO⟩
  rw [wp_ret]
  imodintro
  isplitl [HO]; · iexists _; iexact HO
  iexact Hc

/-- What sending chunk `k` to the partner along the first axis uses up. -/
def sendP (c : Dev nD) (k : Fin 16) : sProp 𝕄 :=
  iprop(dutyTok ER (bankCell 0 c k) 0 false ∗ dutyTok ER (bankCell 1 (xn c) k) 0 false ∗ ∃ f, rCp fullShare (xn c) k f)

/-- Chunk `k` sent to the partner along the first axis, with half of its share: the debt is paid and the send's credit held. -/
theorem send_wp (c : Dev nD) (k : Fin 16) (O : CellTallies nD τ sig Unit) :
    iprop((env m K ∗ owesE c (O + t1 c k)) ∗ sCp fullShare.left c k (castV m c) ∗ sendP c k)
      ⊢ WP c (send c k) iprop(owesE c O ∗ cred (tallyAt (bankCell 0 c k) () N)) :=
  remote_wp m K c (xn c) (dX c) (dX_eq c) 0 1 k rfl rfl (src := sC c k) (dst := rC k) (rC_credit k) fullShare.left (castV m c) (landV m (xn c))
    (read_rC m c k) rfl rfl O

/-- What passing chunk `k` on to the partner along the second axis uses up. -/
def relayP (c : Dev nD) (k : Fin 16) : sProp 𝕄 :=
  iprop(dutyTok ER (bankCell 2 c k) 0 false ∗ dutyTok ER (bankCell 3 (yn c) k) 0 false ∗ ∃ f, oCp c (yn c) k f)

/-- Chunk `k` passed on to the partner along the second axis, with half of its share: the debt is paid and the send's credit held. -/
theorem pass_wp (c : Dev nD) (k : Fin 16) (O : CellTallies nD τ sig Unit) :
    iprop((env m K ∗ owesE c (O + t2 c k)) ∗ rCp fullShare.left c k (landV m c) ∗ relayP c k)
      ⊢ WP c (Prog.lift (.enqueueDma (rC k) (.remote (Dev.tc (dY c)) (oC c k) (.dma (s2S k))) (.dma (r2S k)) (rC_words k) (oC_words c k)
          ⟨⟨rfl, Or.inl rfl⟩, trivial⟩)) iprop(owesE c O ∗ cred (tallyAt (bankCell 2 c k) () N)) :=
  remote_wp m K c (yn c) (dY c) (dY_eq c) 2 3 k rfl rfl (src := rC k) (dst := oC c k) (oC_credit c k) fullShare.left (landV m c) (outV m (yn c))
    (read_oC m c (yn c) (.inr rfl) k) rfl (by
      show _ = oCp (yn (yn c)) (yn c) k (outV m (yn c))
      rw [yn_yn]; rfl) O

end Cert.RelayProof

end
-- ==== Proof.Split.lean ====
/-
# Buffers as their pieces

Every buffer whole is its pieces side by side: the two-thousand-row buffers are the kept half and the eight groups (or
the sixteen chunks) of the sent half, the landing buffer its sixteen chunks, the result the device's own rows, the
chunks it relays and the chunks its partner relays.
-/
module

public import proofs.«01_k».proof.Proof.Steps

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Covers -/

/-- A family of bands covering the rows below `n` covers every index. -/
theorem cover {n : ℕ} {T : Type} [Fintype T] [DecidableEq T] (A : Finset (⟨2, ![n, 512]⟩ : Shape).Idx) (B : T → Finset (⟨2, ![n, 512]⟩ : Shape).Idx)
    (h : ∀ i : (⟨2, ![n, 512]⟩ : Shape).Idx, (i 0).val < n → i ∈ A ∨ ∃ t, i ∈ B t) : A ∪ Finset.univ.biUnion B = Finset.univ :=
  Finset.eq_univ_iff_forall.mpr fun i => by
    rw [Finset.mem_union, Finset.mem_biUnion]
    rcases h i (i 0).isLt with h | ⟨t, h⟩
    · exact .inl h
    · exact .inr ⟨t, Finset.mem_univ t, h⟩

/-- The kept half and the groups are all rows of a block. -/
theorem half_groups (c : Dev nD) : band 2048 (1024 - 1024 * (c.val % 2)) 1024
    ∪ Finset.univ.biUnion (fun g : Fin 8 => band 2048 (1024 * (c.val % 2) + 128 * g.val) 128) = Finset.univ :=
  cover _ _ fun i hi => by
    by_cases h : i ∈ band 2048 (1024 - 1024 * (c.val % 2)) 1024
    · exact .inl h
    · refine .inr ⟨⟨((i 0).val - 1024 * (c.val % 2)) / 128, ?_⟩, ?_⟩
      · rw [mem_band] at h; omega
      · rw [mem_band] at h ⊢; simp only; omega
/-- The kept half and the chunks of the sent half are all rows of a block. -/
theorem half_chunks (c : Dev nD) : band 2048 (1024 - 1024 * (c.val % 2)) 1024
    ∪ Finset.univ.biUnion (fun k : Fin 16 => band 2048 (1024 * (c.val % 2) + 64 * k.val) 64) = Finset.univ :=
  cover _ _ fun i hi => by
    by_cases h : i ∈ band 2048 (1024 - 1024 * (c.val % 2)) 1024
    · exact .inl h
    · refine .inr ⟨⟨((i 0).val - 1024 * (c.val % 2)) / 64, ?_⟩, ?_⟩
      · rw [mem_band] at h; omega
      · rw [mem_band] at h ⊢; simp only; omega
/-- The chunks are all rows of the landing buffer. -/
theorem land_chunks : (∅ : Finset (⟨2, ![1024, 512]⟩ : Shape).Idx)
    ∪ Finset.univ.biUnion (fun k : Fin 16 => band 1024 (64 * k.val) 64) = Finset.univ :=
  cover _ _ fun i hi => .inr ⟨⟨(i 0).val / 64, by omega⟩, by rw [mem_band]; simp only; omega⟩

/-- The rows of the result outside device `c`'s own block: the chunks it relays, and those its partner relays. -/
def otherSet (c : Dev nD) : Fin 16 ⊕ Fin 16 → Finset (⟨2, ![4096, 512]⟩ : Shape).Idx
  | .inl k => band 4096 (1024 * (c.val % 2) + 64 * k.val + 2048 - 2048 * (c.val / 2)) 64
  | .inr k => band 4096 (1024 * ((yn c).val % 2) + 64 * k.val + 2048 - 2048 * ((yn c).val / 2)) 64

/-- The own rows, the relayed chunks and the partner's are all rows of the result. -/
theorem result_parts (c : Dev nD) : band 4096 (2048 * (c.val / 2)) 2048 ∪ Finset.univ.biUnion (otherSet c) = Finset.univ :=
  cover _ _ fun i hi => by
    have hc := dev_lt c
    by_cases h : i ∈ band 4096 (2048 * (c.val / 2)) 2048
    · exact .inl h
    · rw [mem_band] at h
      by_cases h2 : (i 0).val % 2048 / 1024 = c.val % 2
      · refine .inr ⟨.inl ⟨(i 0).val % 1024 / 64, by omega⟩, ?_⟩
        unfold otherSet; rw [mem_band]; simp only; omega
      · refine .inr ⟨.inr ⟨(i 0).val % 1024 / 64, by omega⟩, ?_⟩
        unfold otherSet; rw [mem_band, yn_mod, yn_div]; simp only; omega

/-- The own rows share no element with a chunk, -/
theorem result_disjoint (c : Dev nD) (t : Fin 16 ⊕ Fin 16) : Disjoint (band 4096 (2048 * (c.val / 2)) 2048) (otherSet c t) := by
  have hc := dev_lt c
  rcases t with k | k
  · exact band_disjoint (by have := k.isLt; omega)
  · exact band_disjoint (by have := k.isLt; rw [yn_mod, yn_div]; omega)
/-- nor does a chunk with another. -/
theorem other_disjoint (c : Dev nD) (t t' : Fin 16 ⊕ Fin 16) (h : t ≠ t') : Disjoint (otherSet c t) (otherSet c t') := by
  have hc := dev_lt c
  rcases t with k | k <;> rcases t' with k' | k' <;> refine band_disjoint ?_ <;> have := k.isLt <;> have := k'.isLt
  · have : k.val ≠ k'.val := fun h' => h (by rw [Fin.ext h'])
    omega
  · rw [yn_mod, yn_div]; omega
  · rw [yn_mod, yn_div]; omega
  · have : k.val ≠ k'.val := fun h' => h (by rw [Fin.ext h'])
    rw [yn_mod, yn_div]; omega

/-! ## Points-to assertions along a cover -/

/-- Assertions that entail each other are equal. -/
theorem biEq {P Q : sProp 𝕄} (h : P ⊣⊢ Q) : P = Q := equiv_iff.mp ⟨h.1, h.2⟩

/-- Equal parts make equal assertions. -/
theorem sepEq {P P' Q Q' : sProp 𝕄} (h : P = P') (h' : Q = Q') : iprop(P ∗ Q) = iprop(P' ∗ Q') := by rw [h, h']

/-- A whole buffer is one piece and a family of others, all disjoint. -/
theorem pts_parts {ℓ : Loc nD τ sig} {T : Type} [Fintype T] [DecidableEq T] {A : Finset (Idx ℓ)} {B : T → Finset (Idx ℓ)}
    (hU : A ∪ Finset.univ.biUnion B = Finset.univ) (hA : ∀ t, Disjoint A (B t)) (hB : ∀ t t', t ≠ t' → Disjoint (B t) (B t'))
    (q : PosShare TreeShare) (f : Buf (Elt F) ℓ) :
    (ℓ ↦[Finset.univ]{q} f : sProp 𝕄) = iprop((ℓ ↦[A]{q} f) ∗ bigSep Finset.univ fun t => ℓ ↦[B t]{q} f) := by
  calc (ℓ ↦[Finset.univ]{q} f : sProp 𝕄)
      = (ℓ ↦[A ∪ Finset.univ.biUnion B]{q} f) := by rw [hU]
    _ = iprop((ℓ ↦[A]{q} f) ∗ ℓ ↦[Finset.univ.biUnion B]{q} f) :=
        biEq (pointsTo_union ((Finset.disjoint_biUnion_right _ _ _).mpr fun t _ => hA t))
    _ = iprop((ℓ ↦[A]{q} f) ∗ bigSep Finset.univ fun t => ℓ ↦[B t]{q} f) := by
        rw [pointsTo_biUnion Finset.univ B fun t _ t' _ h => hB t t' h]

/-- Assertions over equal element sets. -/
theorem pts_set {ℓ : Loc nD τ sig} {A B : Finset (Idx ℓ)} (h : A = B) (q : PosShare TreeShare) (f : Buf (Elt F) ℓ) :
    (ℓ ↦[A]{q} f : sProp 𝕄) = (ℓ ↦[B]{q} f) := by rw [h]

variable (m : (ℓ : Loc nD τ sig) → Buf (Elt F) ℓ)

/-- The kept half shares no element with a group, -/
theorem groups_disjoint (c : Dev nD) (g : Fin 8) : Disjoint (band 2048 (1024 - 1024 * (c.val % 2)) 1024) (band 2048 (1024 * (c.val % 2) + 128 * g.val) 128) :=
  band_disjoint (by have := g.isLt; omega)
/-- nor does a group with another. -/
theorem group_disjoint (c : Dev nD) (g g' : Fin 8) (h : g ≠ g') :
    Disjoint (band 2048 (1024 * (c.val % 2) + 128 * g.val) 128) (band 2048 (1024 * (c.val % 2) + 128 * g'.val) 128) :=
  band_disjoint (by have : g.val ≠ g'.val := fun h' => h (Fin.ext h'); omega)
/-- The kept half shares no element with a chunk of the sent half, -/
theorem chunks_disjoint (c : Dev nD) (k : Fin 16) : Disjoint (band 2048 (1024 - 1024 * (c.val % 2)) 1024) (band 2048 (1024 * (c.val % 2) + 64 * k.val) 64) :=
  band_disjoint (by have := k.isLt; omega)
/-- nor does a chunk with another. -/
theorem chunk_disjoint {n : ℕ} (o : ℕ) (k k' : Fin 16) (h : k ≠ k') : Disjoint (band n (o + 64 * k.val) 64) (band n (o + 64 * k'.val) 64) :=
  band_disjoint (by have : k.val ≠ k'.val := fun h' => h (Fin.ext h'); omega)

/-- The argument, whole, is the kept half and the groups. -/
theorem arg_parts (c : Dev nD) :
    (((c : Thread nD τ).loc main_arg0) ↦{fullShare} argV m c : sProp 𝕄) = iprop(xHp m c ∗ bigSep Finset.univ fun g : Fin 8 => xGp m c g) := by
  refine (pts_parts (ℓ := (c : Thread nD τ).loc main_arg0) (half_groups c) (groups_disjoint c) (group_disjoint c) fullShare (argV m c)).trans ?_
  unfold xHp xGp
  exact sepEq (pts_set (ℓ := (c : Thread nD τ).loc main_arg0) (xH_set c).symm fullShare (argV m c))
    (bigSep_congr fun g _ => pts_set (ℓ := (c : Thread nD τ).loc main_arg0) (xG_set c g).symm fullShare (argV m c))

/-- The staged block. -/
theorem stg_parts (c : Dev nD) (f : (cc0_scratch0 : Ref sig .tc).ty.Contents (Elt F)) :
    (((c : Thread nD τ).loc cc0_scratch0) ↦{fullShare} f : sProp 𝕄) = iprop(vHp c f ∗ bigSep Finset.univ fun g : Fin 8 => vGp c g f) := by
  refine (pts_parts (ℓ := (c : Thread nD τ).loc cc0_scratch0) (half_groups c) (groups_disjoint c) (group_disjoint c) fullShare f).trans ?_
  unfold vHp vGp
  exact sepEq (pts_set (ℓ := (c : Thread nD τ).loc cc0_scratch0) (vH_set c).symm fullShare f)
    (bigSep_congr fun g _ => pts_set (ℓ := (c : Thread nD τ).loc cc0_scratch0) (vG_set c g).symm fullShare f)

/-- The cast block, by groups and by chunks. -/
theorem cast_parts (c : Dev nD) (f : (cc0_scratch1 : Ref sig .tc).ty.Contents (Elt F)) :
    (((c : Thread nD τ).loc cc0_scratch1) ↦{fullShare} f : sProp 𝕄) = iprop(sHp fullShare c f ∗ bigSep Finset.univ fun g : Fin 8 => sGp c g f) := by
  refine (pts_parts (ℓ := (c : Thread nD τ).loc cc0_scratch1) (half_groups c) (groups_disjoint c) (group_disjoint c) fullShare f).trans ?_
  unfold sHp sGp
  exact sepEq (pts_set (ℓ := (c : Thread nD τ).loc cc0_scratch1) (sH_set c).symm fullShare f)
    (bigSep_congr fun g _ => pts_set (ℓ := (c : Thread nD τ).loc cc0_scratch1) (sG_set c g).symm fullShare f)
/-- The cast block's view covers its whole buffer. -/
theorem sM_set : (sM : Memref sig .tc .vmem S2048x512 .bf16).view.set = Finset.univ := View.set_whole _
/-- Holding the cast block is holding the buffer. -/
theorem sMp_eq (q : PosShare TreeShare) (c : Dev nD) : (sMp m q c : sProp 𝕄) = (((c : Thread nD τ).loc cc0_scratch1) ↦{q} castV m c) := by
  unfold sMp; rw [sM_set]
/-- The cast block is the kept half and the chunks of the sent half, at any share. -/
theorem cast_chunks (q : PosShare TreeShare) (c : Dev nD) :
    (sMp m q c : sProp 𝕄) = iprop(sHp q c (castV m c) ∗ bigSep Finset.univ fun k : Fin 16 => sCp q c k (castV m c)) := by
  refine (sMp_eq m q c).trans ((pts_parts (ℓ := (c : Thread nD τ).loc cc0_scratch1) (half_chunks c) (chunks_disjoint c) (chunk_disjoint _) q (castV m c)).trans ?_)
  unfold sHp sCp
  exact sepEq (pts_set (ℓ := (c : Thread nD τ).loc cc0_scratch1) (sH_set c).symm q (castV m c))
    (bigSep_congr fun k _ => pts_set (ℓ := (c : Thread nD τ).loc cc0_scratch1) (sC_set c k).symm q (castV m c))
/-- A group is its two chunks. -/
theorem group_chunks (c : Dev nD) (g : Fin 8) (f : (cc0_scratch1 : Ref sig .tc).ty.Contents (Elt F)) :
    (sGp c g f : sProp 𝕄) = iprop(sCp fullShare c ⟨2 * g.val, by omega⟩ f ∗ sCp fullShare c ⟨2 * g.val + 1, by omega⟩ f) := by
  unfold sGp sCp
  refine (pts_set (ℓ := (c : Thread nD τ).loc cc0_scratch1) (B := band 2048 (1024 * (c.val % 2) + 64 * (2 * g.val)) 64 ∪ band 2048 (1024 * (c.val % 2) + 64 * (2 * g.val + 1)) 64) ?_ fullShare f).trans
    ((biEq (pointsTo_union (ℓ := (c : Thread nD τ).loc cc0_scratch1) (band_disjoint (by omega)))).trans ?_)
  · rw [sG_set]; ext i; rw [Finset.mem_union, mem_band, mem_band, mem_band]; omega
  · exact sepEq (pts_set (ℓ := (c : Thread nD τ).loc cc0_scratch1) (sC_set c ⟨2 * g.val, by omega⟩).symm fullShare f)
      (pts_set (ℓ := (c : Thread nD τ).loc cc0_scratch1) (sC_set c ⟨2 * g.val + 1, by omega⟩).symm fullShare f)

/-- The landing buffer is its chunks. -/
theorem land_parts (c : Dev nD) (f : (cc0_scratch2 : Ref sig .tc).ty.Contents (Elt F)) :
    (((c : Thread nD τ).loc cc0_scratch2) ↦{fullShare} f : sProp 𝕄) = bigSep Finset.univ fun k : Fin 16 => rCp fullShare c k f := by
  refine (pts_parts (ℓ := (c : Thread nD τ).loc cc0_scratch2) (A := ∅) land_chunks (fun t => Finset.disjoint_empty_left _)
    (fun k k' h => band_disjoint (by have : k.val ≠ k'.val := fun h' => h (Fin.ext h'); omega)) fullShare f).trans ?_
  rw [pointsTo_empty]
  refine (biEq emp_sep).trans ?_
  unfold rCp
  exact bigSep_congr fun k _ => pts_set (ℓ := (c : Thread nD τ).loc cc0_scratch2) (rC_set k).symm fullShare f

/-- The result: the own rows, the chunks relayed, the chunks the partner relays. -/
theorem out_parts (c : Dev nD) (f : (main_v1 : Ref sig .tc).ty.Contents (Elt F)) :
    (((c : Thread nD τ).loc main_v1) ↦{fullShare} f : sProp 𝕄)
      = iprop(oOp c f ∗ (bigSep Finset.univ fun k : Fin 16 => oCp c c k f) ∗ bigSep Finset.univ fun k : Fin 16 => oCp (yn c) c k f) := by
  refine (pts_parts (ℓ := (c : Thread nD τ).loc main_v1) (result_parts c) (result_disjoint c) (other_disjoint c) fullShare f).trans ?_
  rw [bigSep_univ_sum]
  unfold oOp oCp
  exact sepEq (pts_set (ℓ := (c : Thread nD τ).loc main_v1) (oO_set c).symm fullShare f)
    (sepEq (bigSep_congr fun k _ => pts_set (ℓ := (c : Thread nD τ).loc main_v1) (oC_set c k).symm fullShare f)
      (bigSep_congr fun k _ => pts_set (ℓ := (c : Thread nD τ).loc main_v1) (oC_set (yn c) k).symm fullShare f))

/-- Both halves of a share. -/
theorem sCp_halves (c : Dev nD) (k : Fin 16) (f : (cc0_scratch1 : Ref sig .tc).ty.Contents (Elt F)) :
    (sCp fullShare c k f : sProp 𝕄) = iprop(sCp fullShare.left c k f ∗ sCp fullShare.right c k f) :=
  by unfold sCp; exact biEq (pointsTo_share (PosShare.mem_left_op_right fullShare))
/-- The same of the cast kept half, -/
theorem sHp_halves (c : Dev nD) (f : (cc0_scratch1 : Ref sig .tc).ty.Contents (Elt F)) :
    (sHp fullShare c f : sProp 𝕄) = iprop(sHp fullShare.left c f ∗ sHp fullShare.right c f) :=
  by unfold sHp; exact biEq (pointsTo_share (PosShare.mem_left_op_right fullShare))
/-- of a landed chunk, -/
theorem rCp_halves (c : Dev nD) (k : Fin 16) (f : (cc0_scratch2 : Ref sig .tc).ty.Contents (Elt F)) :
    (rCp fullShare c k f : sProp 𝕄) = iprop(rCp fullShare.left c k f ∗ rCp fullShare.right c k f) :=
  by unfold rCp; exact biEq (pointsTo_share (PosShare.mem_left_op_right fullShare))
/-- and of the whole cast block. -/
theorem sMp_halves (c : Dev nD) : (sMp m fullShare c : sProp 𝕄) = iprop(sMp m fullShare.left c ∗ sMp m fullShare.right c) :=
  by unfold sMp; exact biEq (pointsTo_share (PosShare.mem_left_op_right fullShare))

end Cert.RelayProof

end
-- ==== Proof.Stages.lean ====
/-
# The stages

The steps of the body put together over a group or a chunk: the fetches, the handshake, the casts and sends, the relay,
the drain. Each stage is stated with all it needs and all it leaves.
-/
module

public import proofs.«01_k».proof.Proof.Split

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-- One program, then another from what the first leaves. -/
theorem WP_then {c : Dev nD} {p q : TProg F} {P R Q : sProp 𝕄} (hp : P ⊢ WP c p R) :
    P ⊢ iprop((R -∗ WP c q Q) -∗ WP c (p >>= fun _ => q) Q) := by
  show P ⊢ iprop((R -∗ WP c q Q) -∗ wp frame (wpE (defs₀ (F := F)) 𝒱₀ (c : Thread nD τ) none) Set.univ (p >>= fun _ => q) fun _ => Q)
  rw [wp_bind]
  iintro HP Hk
  ihave Hw := hp $$ HP
  iapply (wp_wand frame _ Set.univ) $$ Hw
  iintro %a HR
  iapply Hk; iexact HR
/-- A program at the end. -/
theorem WP_last {c : Dev nD} {p : TProg F} {P R Q : sProp 𝕄} (hp : P ⊢ WP c p R) : P ⊢ iprop((R -∗ Q) -∗ WP c p Q) := by
  iintro HP Hk
  ihave Hw := hp $$ HP
  iapply (wp_wand frame _ Set.univ) $$ Hw
  iintro %a HR
  iapply Hk; iexact HR

variable (m : (ℓ : Loc nD τ sig) → Buf (Elt F) ℓ) (K : Dev nD × CI → ℕ)

/-- A group's two chunks. -/
abbrev lo (g : Fin 8) : Fin 16 := ⟨2 * g.val, by omega⟩
/-- The second of them. -/
abbrev hi (g : Fin 8) : Fin 16 := ⟨2 * g.val + 1, by omega⟩

/-- A group still to be sent is two chunks owed on top of the rest, -/
theorem owedG_cons (c : Dev nD) (g : Fin 8) (l : List (Fin 8)) : owedG c (g :: l) = owedG c l + t1 c (hi g) + t1 c (lo g) := rfl
/-- and a chunk still to be relayed one. -/
theorem owedR_cons (c : Dev nD) (k : Fin 16) (l : List (Fin 16)) : owedR c (k :: l) = owedR c l + t2 c k := rfl

/-- What the four banks' units hand over. -/
theorem bankPay_0 (c : Dev nD) (k : Fin 16) : bankPay m c (0 : Fin 4).val k = sCp fullShare.left c k (castV m c) := rfl
/-- A first-phase receive hands over the landed chunk. -/
theorem bankPay_1 (c : Dev nD) (k : Fin 16) : bankPay m c (1 : Fin 4).val k = rCp fullShare c k (landV m c) := rfl
/-- A second-phase send hands its half share of the landed chunk back. -/
theorem bankPay_2 (c : Dev nD) (k : Fin 16) : bankPay m c (2 : Fin 4).val k = rCp fullShare.left c k (landV m c) := rfl
/-- A second-phase receive hands over the partner's chunk of the result. -/
theorem bankPay_3 (c : Dev nD) (k : Fin 16) : bankPay m c (3 : Fin 4).val k = oCp (yn c) c k (outV m c) := rfl

/-- A group's transfer has some credit, -/
theorem vG_pos (c : Dev nD) (g : Fin 8) : 0 < (vG c g).view.dmaCredit := View.dmaCredit_pos _ (by decide)
/-- the kept half's too, -/
theorem vH_pos (c : Dev nD) : 0 < (vH c).view.dmaCredit := View.dmaCredit_pos _ (by decide)
/-- the own block's, -/
theorem oO_pos (c : Dev nD) : 0 < (oO c).view.dmaCredit := View.dmaCredit_pos _ (by decide)
/-- and a chunk's. -/
theorem oC_pos (c : Dev nD) (k : Fin 16) : 0 < (oC c k).view.dmaCredit := View.dmaCredit_pos _ (by decide)

/-! ## The fetches -/

/-- Group `g`'s fetch in flight; the kept half's. -/
def fetching (c : Dev nD) (g : Fin 8) : sProp 𝕄 :=
  Flight EC (c : Thread nD τ) (.dma (inS (Fin.castSucc g))) () (vG c g).view.dmaCredit iprop(vGp c g (stgV m c) ∗ xGp m c g)
/-- The kept half's fetch in flight. -/
def fetchingH (c : Dev nD) : sProp 𝕄 :=
  Flight EC (c : Thread nD τ) (.dma (inS 8)) () (vH c).view.dmaCredit iprop(vHp c (stgV m c) ∗ xHp m c)

/-- Starting a group's fetch puts it in flight. -/
theorem fetch_wp (c : Dev nD) (g : Fin 8) :
    iprop(xGp m c g ∗ (∃ f, vGp c g f) ∗ semVal ((c : Thread nD τ), .dma (inS (Fin.castSucc g))) 0) ⊢ WP c (fetch c g) (fetching m c g) :=
  copy_wp c (src := xG c g) (dst := vG c g) (q := inS (Fin.castSucc g)) (hsrc := xG_words c g) (hdst := vG_words c g) (hsem := ⟨Or.inl rfl, trivial⟩) (vG_pos c g) fullShare (argV m c) (stgV m c) (read_vG m c g)
/-- Starting the kept half's fetch puts it in flight. -/
theorem fetchH_wp (c : Dev nD) :
    iprop(xHp m c ∗ (∃ f, vHp c f) ∗ semVal ((c : Thread nD τ), .dma (inS 8)) 0) ⊢ WP c (fetchH c) (fetchingH m c) :=
  copy_wp c (src := xH c) (dst := vH c) (q := inS 8) (hsrc := xH_words c) (hdst := vH_words c) (hsem := ⟨Or.inl rfl, trivial⟩) (vH_pos c) fullShare (argV m c) (stgV m c) (read_vH m c)

/-! ## The handshake -/

/-- What device `c` hands its partner along the first axis, and along the second. -/
theorem rPay_xn (c : Dev nD) : (rPay (xn c) : sProp 𝕄) = bigSep Finset.univ fun k : Fin 16 => iprop(∃ f, rCp fullShare c k f) := by
  unfold rPay; rw [xn_xn]
/-- The same for the partner along the second axis: the rows of the result that the partner relays. -/
theorem oPay_yn (c : Dev nD) : (oPay (yn c) : sProp 𝕄) = bigSep Finset.univ fun k : Fin 16 => iprop(∃ f, oCp (yn c) c k f) := by
  unfold oPay; rw [yn_yn]

/-- The handshake: the device hands its landing buffer and part of its result to its partners and gets theirs. -/
theorem hand_wp (c : Dev nD) :
    iprop((env m K ∗ owesE c (O₀ c)) ∗ (dutyTok ER (barCell (xn c)) 0 false ∗ rPay (xn c)) ∗ (dutyTok ER (barCell (yn c)) 0 true ∗ oPay (yn c))
        ∗ cred (tallyAt (barCell c) () 2) ∗ atPos ER (barCell c) 0 ∅ 0)
      ⊢ WP c (hand c) iprop(owesE c (owedG c l8) ∗ rPay c ∗ oPay c ∗ semVal (barCell c) 0) := by
  unfold hand
  simp only [semSignalWord, semWaitWord, Prog.lift, Prog.bind_op, Prog.bind_ret, Prog.pure_eq_ret]
  unfold owesE
  simp only [dev1_eq c, dev2_eq c]
  iintro ⟨⟨#HE, ⟨%W, HO⟩⟩, ⟨HtX, HpX⟩, ⟨HtY, HpY⟩, Hc, Hat⟩
  ihave #HI := (env_inv m K c (Sum.inl ())) $$ HE
  ihave #HIX := (env_inv m K (xn c) (Sum.inl ())) $$ HE
  ihave #HIY := (env_inv m K (yn c) (Sum.inl ())) $$ HE
  ihave #HRX := (env_reached m K (xn c) (Sum.inl ())) $$ HE
  ihave #HRY := (env_reached m K (yn c) (Sum.inl ())) $$ HE
  iapply (Rounds.wp_signal 𝒱₀ ER (relayRd m) (c : Thread nD τ) none (dst := (xn c : Thread nD τ)) (κ := K (xn c, Sum.inl ()))
      (d := false) (by rw [duties_bar]; exact Finset.mem_univ _) ((amount_bar m (xn c) false).trans (by decide)) () (O₁ c) rfl)
    $$ [HO HtX HpX]
  · isplitr; · iexact HIX
    isplitl [HO]; · iexact HO
    isplitl [HtX]; · iexact HtX
    isplitl [HpX]; · rw [payload_bar_false]; iexact HpX
    iexact HRX
  iintro HO
  unfold O₁
  iapply (Rounds.wp_signal 𝒱₀ ER (relayRd m) (c : Thread nD τ) none (dst := (yn c : Thread nD τ)) (κ := K (yn c, Sum.inl ()))
      (d := true) (by rw [duties_bar]; exact Finset.mem_univ _) ((amount_bar m (yn c) true).trans (by decide)) () (owedG c l8) rfl)
    $$ [HO HtY HpY]
  · isplitr; · iexact HIY
    isplitl [HO]; · iexact HO
    isplitl [HtY]; · iexact HtY
    isplitl [HpY]; · rw [payload_bar_true]; iexact HpY
    iexact HRY
  iintro HO
  iapply (Rounds.wp_wait_rest_token 𝒱₀ ER (relayRd m) (c : Thread nD τ) none (κ := K (c, Sum.inl ()))
      (wpE_semWait_eq 𝒱₀ (c : Thread nD τ) none Set.univ) (Set.mem_univ _) () (O := owedG c l8) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) lv_bar (above_owedG c (by decide) l8)); iapply (env_lev m K); iexact HE
    iexact Hat
  iintro ⟨HO, Hat, -, Hp⟩
  ihave Hp := (Entails.of_eq (rest_bar m c)) $$ Hp
  icases Hp with ⟨Hr, Ho⟩
  imod (Rounds.cell_close ER (relayRd m) (Set.mem_univ (K (c, Sum.inl ()))) (fun h => h) (R := 0 + 1) (duties_later m (barCell c))) $$ [Hat] with Hz
  · isplitr; · iexact HI
    iexact Hat
  rw [wp_ret]
  imodintro
  isplitl [HO]; · iexists _; iexact HO
  isplitl [Hr]; · iexact Hr
  isplitl [Ho] <;> iassumption

/-! ## The casts and the first phase's sends -/

/-- The rows that a group loads are the staged ones. -/
theorem vG_access (c : Dev nD) (g : Fin 8) : (vM.access (gRect c g)).set ⊆ (vG c g).view.set := by
  rw [vG_set]; exact subset_of_eq ((View.set_slice_whole _ _).trans (gRect_set c g))
/-- The rows that the kept half loads are the staged ones. -/
theorem vH_access (c : Dev nD) : (vM.access (hRect c)).set ⊆ (vH c).view.set := by
  rw [vH_set]; exact subset_of_eq ((View.set_slice_whole _ _).trans (hRect_set c))

/-- A group's turn at the cast: its rows have arrived and are stored cast. -/
theorem castG_wp (c : Dev nD) (g : Fin 8) (l : List (Fin 8)) :
    iprop((env m K ∗ owesE c (owedG c l)) ∗ fetching m c g ∗ ∃ f, sGp c g f)
      ⊢ WP c (castG c g) iprop(owesE c (owedG c l) ∗ ((vGp c g (stgV m c) ∗ xGp m c g) ∗ semVal ((c : Thread nD τ), .dma (inS (Fin.castSucc g))) 0)
          ∗ sGp c g (castV m c)) := by
  unfold castG
  iintro ⟨⟨#HE, HO⟩, HF, ⟨%f, Hs⟩⟩
  unfold fetching
  iapply (WP_then (copyWait_wp c (srcw := xG c g) (dstw := vG c g) (hsrc := xG_words c g) (hdst := vG_words c g) rfl (O := owedG c l)
    (mayWait c _ (lv_in (Fin.castSucc g)) (above_owedG c (by decide) l)))) $$ [HO HF]
  · isplitl [HO]
    · isplitr; · iapply (env_lev m K); iexact HE
      iexact HO
    iexact HF
  iintro ⟨HO, ⟨Hv, Hx⟩, Hz⟩
  simp only [Prog.lift, Prog.bind_op, Prog.bind_ret]
  unfold vGp sGp
  iapply (wp_load_rect 𝒱₀ (c : Thread nD τ) none Set.univ (m := vM) (r := gRect c g) (vG_access c g)) $$ Hv
  iintro Hv
  iapply (wp_load_rect 𝒱₀ (c : Thread nD τ) none Set.univ (m := sM) (r := gRect c g) (Finset.Subset.refl _)) $$ Hs
  iintro Hs
  iapply (wp_store 𝒱₀ (c : Thread nD τ) none Set.univ (m := sM) (r := gRect c g) (Mk := Finset.univ) (by rw [View.setOn_univ])) $$ Hs
  iintro Hs
  rw [wp_ret]
  imodintro
  isplitl [HO]; · iexact HO
  isplitl [Hv Hx Hz]
  · isplitl [Hv Hx]
    · isplitl [Hv] <;> iassumption
    · iexact Hz
  iapply (Entails.of_eq (pointsTo_congr (write_read (sM.access (gRect c g)) f (castV m c) _ (read_sG m c g)))) $$ Hs

/-- The kept half's cast: its rows have arrived and are stored cast. -/
theorem castH_wp (c : Dev nD) (l : List (Fin 8)) :
    iprop((env m K ∗ owesE c (owedG c l)) ∗ fetchingH m c ∗ ∃ f, sHp fullShare c f)
      ⊢ WP c (castH c) iprop(owesE c (owedG c l) ∗ ((vHp c (stgV m c) ∗ xHp m c) ∗ semVal ((c : Thread nD τ), .dma (inS 8)) 0)
          ∗ sHp fullShare c (castV m c)) := by
  unfold castH
  iintro ⟨⟨#HE, HO⟩, HF, ⟨%f, Hs⟩⟩
  unfold fetchingH
  iapply (WP_then (copyWait_wp c (srcw := xH c) (dstw := vH c) (hsrc := xH_words c) (hdst := vH_words c) rfl (O := owedG c l)
    (mayWait c _ (lv_in 8) (above_owedG c (by decide) l)))) $$ [HO HF]
  · isplitl [HO]
    · isplitr; · iapply (env_lev m K); iexact HE
      iexact HO
    iexact HF
  iintro ⟨HO, ⟨Hv, Hx⟩, Hz⟩
  simp only [Prog.lift, Prog.bind_op, Prog.bind_ret]
  unfold vHp sHp
  iapply (wp_load_rect 𝒱₀ (c : Thread nD τ) none Set.univ (m := vM) (r := hRect c) (vH_access c)) $$ Hv
  iintro Hv
  iapply (wp_load_rect 𝒱₀ (c : Thread nD τ) none Set.univ (m := sM) (r := hRect c) (Finset.Subset.refl _)) $$ Hs
  iintro Hs
  iapply (wp_store 𝒱₀ (c : Thread nD τ) none Set.univ (m := sM) (r := hRect c) (Mk := Finset.univ) (by rw [View.setOn_univ])) $$ Hs
  iintro Hs
  rw [wp_ret]
  imodintro
  isplitl [HO]; · iexact HO
  isplitl [Hv Hx Hz]
  · isplitl [Hv Hx]
    · isplitl [Hv] <;> iassumption
    · iexact Hz
  iapply (Entails.of_eq (pointsTo_congr (write_read (sM.access (hRect c)) f (castV m c) _ (read_sH m c)))) $$ Hs

/-- After chunk `k` is sent: its other half share, and the send's credit. -/
def sent (c : Dev nD) (k : Fin 16) : sProp 𝕄 := iprop(sCp fullShare.right c k (castV m c) ∗ cred (tallyAt (bankCell 0 c k) () N))

/-- What group `g` needs, and what it leaves. -/
def groupP (c : Dev nD) (g : Fin 8) : sProp 𝕄 :=
  iprop(fetching m c g ∗ (∃ f, sGp c g f) ∗ sendP c (lo g) ∗ sendP c (hi g))
/-- What group `g` leaves. -/
def groupQ (c : Dev nD) (g : Fin 8) : sProp 𝕄 :=
  iprop(((vGp c g (stgV m c) ∗ xGp m c g) ∗ semVal ((c : Thread nD τ), .dma (inS (Fin.castSucc g))) 0)
    ∗ sent m c (lo g) ∗ sent m c (hi g))

/-- One turn of the loop over the groups: the rows cast, both chunks sent, two debts fewer. -/
theorem group_wp (c : Dev nD) (g : Fin 8) (l : List (Fin 8)) :
    iprop((env m K ∗ owesE c (owedG c (g :: l))) ∗ groupP m c g) ⊢ WP c (group c g) iprop((env m K ∗ owesE c (owedG c l)) ∗ groupQ m c g) := by
  unfold group groupP groupQ sent
  iintro ⟨⟨#HE, HO⟩, HF, Hs, Hp0, Hp1⟩
  iapply (WP_then (castG_wp m K c g (g :: l))) $$ [HO HF Hs]
  · isplitl [HO]
    · isplitr; · iexact HE
      iexact HO
    isplitl [HF] <;> iassumption
  iintro ⟨HO, Hfin, Hs⟩
  ihave Hs := (Entails.of_eq (group_chunks c g (castV m c))) $$ Hs
  rw [sCp_halves, sCp_halves]
  icases Hs with ⟨⟨Hs0, Hs0'⟩, ⟨Hs1, Hs1'⟩⟩
  rw [owedG_cons]
  iapply (WP_then (send_wp m K c (lo g) (owedG c l + t1 c (hi g)))) $$ [HO Hs0 Hp0]
  · isplitl [HO]
    · isplitr; · iexact HE
      iexact HO
    isplitl [Hs0] <;> iassumption
  iintro ⟨HO, Hc0⟩
  iapply (WP_last (send_wp m K c (hi g) (owedG c l))) $$ [HO Hs1 Hp1]
  · isplitl [HO]
    · isplitr; · iexact HE
      iexact HO
    isplitl [Hs1] <;> iassumption
  iintro ⟨HO, Hc1⟩
  isplitl [HO]
  · isplitr; · iexact HE
    iexact HO
  isplitl [Hfin]; · iexact Hfin
  isplitl [Hs0' Hc0]
  · isplitl [Hs0'] <;> iassumption
  · isplitl [Hs1'] <;> iassumption

/-! ## The own block -/

/-- The own block's copy in flight. -/
def owning (c : Dev nD) : sProp 𝕄 :=
  Flight EC (c : Thread nD τ) (.dma ownS) () (oO c).view.dmaCredit iprop(oOp c (outV m c) ∗ sMp m fullShare.right c)

/-- Starting the copy of the own block puts it in flight. -/
theorem own_wp (c : Dev nD) :
    iprop(sMp m fullShare.right c ∗ (∃ f, oOp c f) ∗ semVal ((c : Thread nD τ), .dma ownS) 0) ⊢ WP c (own c) (owning m c) :=
  copy_wp c (src := sM) (dst := oO c) (q := ownS) (hsrc := (Memref.isWhole_whole _).wordExact) (hdst := oO_words c) (hsem := ⟨Or.inl rfl, trivial⟩) (oO_pos c) fullShare.right (castV m c) (outV m c) (read_oO m c)

/-- Who owes nothing may wait on any semaphore. -/
theorem mayWait_zero (c : Dev nD) (sm : SemLoc sig) : (levAts L lv : sProp 𝕄) ⊢ MayWait (c : Thread nD τ) sm () 0 := by
  rw [MayWait_zero]; iintro -; iempintro

/-- The wait for the own block: the device's own rows of the result hold it. -/
theorem ownWait_wp (c : Dev nD) :
    iprop((levAts L lv ∗ owesE c 0) ∗ owning m c)
      ⊢ WP c (ownWait c) iprop(owesE c 0 ∗ (oOp c (outV m c) ∗ sMp m fullShare.right c) ∗ semVal ((c : Thread nD τ), .dma ownS) 0) :=
  copyWait_wp c (srcw := sM) (dstw := oO c) rfl (mayWait_zero c _)

/-! ## The relay -/

/-- Chunk `k`'s local copy in flight. -/
def keeping (c : Dev nD) (k : Fin 16) : sProp 𝕄 :=
  Flight EC (c : Thread nD τ) (.dma (dS k)) () (oC c k).view.dmaCredit iprop(oCp c c k (outV m c) ∗ rCp fullShare.right c k (landV m c))

/-- What relaying chunk `k` needs, and what it leaves. -/
def relayIn (c : Dev nD) (k : Fin 16) : sProp 𝕄 :=
  iprop((cred (tallyAt (bankCell 1 c k) () N) ∗ atPos ER (bankCell 1 c k) 0 ∅ 0) ∗ relayP c k ∗ (∃ f, oCp c c k f)
    ∗ semVal ((c : Thread nD τ), .dma (dS k)) 0)
/-- What relaying chunk `k` leaves. -/
def relayOut (c : Dev nD) (k : Fin 16) : sProp 𝕄 :=
  iprop(semVal (bankCell 1 c k) 0 ∗ cred (tallyAt (bankCell 2 c k) () N) ∗ keeping m c k)

/-- Starting chunk `k`'s local copy puts it in flight. -/
theorem keep_wp (c : Dev nD) (k : Fin 16) :
    iprop(rCp fullShare.right c k (landV m c) ∗ (∃ f, oCp c c k f) ∗ semVal ((c : Thread nD τ), .dma (dS k)) 0)
      ⊢ WP c (Prog.lift (.enqueueDma (rC k) (.here (oC c k)) (.dma (dS k)) (rC_words k) (oC_words c k) ⟨Or.inl rfl, trivial⟩)) (keeping m c k) :=
  copy_wp c (src := rC k) (dst := oC c k) (q := dS k) (hsrc := rC_words k) (hdst := oC_words c k) (hsem := ⟨Or.inl rfl, trivial⟩) (oC_pos c k) fullShare.right (landV m c) (outV m c) (read_oC m c c (.inl rfl) k)

/-- One turn of the relay: chunk `k` has landed, is passed on and is being copied, one debt fewer. -/
theorem relay_wp (c : Dev nD) (k : Fin 16) (l : List (Fin 16)) :
    iprop((env m K ∗ owesE c (owedR c (k :: l))) ∗ relayIn c k) ⊢ WP c (relay c k) iprop((env m K ∗ owesE c (owedR c l)) ∗ relayOut m c k) := by
  unfold relay relayIn relayOut
  iintro ⟨⟨#HE, HO⟩, Hw, Hp, Ho, Hd⟩
  iapply (WP_then (bankWait_wp m K 1 c k rfl (srcw := sC c k) (dstw := rC k) (hsrc := sC_words c k) (hdst := rC_words k) (rC_credit k)
    (O := owedR c (k :: l)) (mayWait c _ (lv_r1 k) (above_owedR c (by decide) (k :: l))))) $$ [HO Hw]
  · isplitl [HO]
    · isplitr; · iexact HE
      iexact HO
    iexact Hw
  iintro ⟨HO, Hr, Hz⟩
  ihave Hr := (Entails.of_eq ((bankPay_1 m c k).trans (rCp_halves c k (landV m c)))) $$ Hr
  icases Hr with ⟨Hr, Hr'⟩
  rw [owedR_cons]
  iapply (WP_then (pass_wp m K c k (owedR c l))) $$ [HO Hr Hp]
  · isplitl [HO]
    · isplitr; · iexact HE
      iexact HO
    isplitl [Hr] <;> iassumption
  iintro ⟨HO, Hc⟩
  iapply (WP_last (keep_wp m c k)) $$ [Hr' Ho Hd]
  · isplitl [Hr']; · iexact Hr'
    isplitl [Ho] <;> iassumption
  iintro HF
  isplitl [HO]
  · isplitr; · iexact HE
    iexact HO
  isplitl [Hz]; · iexact Hz
  isplitl [Hc] <;> iassumption

/-! ## The drain -/

/-- A shared cell ready to be waited on. -/
def ready (b : Fin 4) (c : Dev nD) (k : Fin 16) : sProp 𝕄 := iprop(cred (tallyAt (bankCell b c k) () N) ∗ atPos ER (bankCell b c k) 0 ∅ 0)

/-- What draining chunk `k` needs. -/
def drainIn (c : Dev nD) (k : Fin 16) : sProp 𝕄 := iprop(keeping m c k ∗ ready 0 c k ∗ ready 2 c k ∗ ready 3 c k)
/-- What it leaves: all pieces of the chunk whole and its semaphores at zero. -/
def drainOut (c : Dev nD) (k : Fin 16) : sProp 𝕄 :=
  iprop((oCp c c k (outV m c) ∗ rCp fullShare c k (landV m c)) ∗ sCp fullShare.left c k (castV m c) ∗ oCp (yn c) c k (outV m c)
    ∗ semVal ((c : Thread nD τ), .dma (dS k)) 0 ∗ semVal (bankCell 0 c k) 0 ∗ semVal (bankCell 2 c k) 0 ∗ semVal (bankCell 3 c k) 0)

/-- One turn of the drain: everything in flight on chunk `k` has arrived. -/
theorem drain_wp (c : Dev nD) (k : Fin 16) :
    iprop((env m K ∗ owesE c 0) ∗ drainIn m c k) ⊢ WP c (drain c k) iprop((env m K ∗ owesE c 0) ∗ drainOut m c k) := by
  unfold drain drainIn drainOut ready keeping
  iintro ⟨⟨#HE, HO⟩, HF, H0, H2, H3⟩
  iapply (WP_then (copyWait_wp c (srcw := rC k) (dstw := oC c k) (hsrc := rC_words k) (hdst := oC_words c k) rfl (mayWait_zero c _))) $$ [HO HF]
  · isplitl [HO]
    · isplitr; · iapply (env_lev m K); iexact HE
      iexact HO
    iexact HF
  iintro ⟨HO, ⟨Ho, Hr'⟩, Hzd⟩
  iapply (WP_then (bankWait_wp m K 0 c k rfl (srcw := rC k) (dstw := sC c k) (hsrc := rC_words k) (hdst := sC_words c k) (sC_credit c k)
    (O := 0) (mayWait_zero c _))) $$ [HO H0]
  · isplitl [HO]
    · isplitr; · iexact HE
      iexact HO
    iexact H0
  iintro ⟨HO, Hs, Hz0⟩
  iapply (WP_then (bankWait_wp m K 2 c k rfl (srcw := oC c k) (dstw := rC k) (hsrc := oC_words c k) (hdst := rC_words k) (rC_credit k)
    (O := 0) (mayWait_zero c _))) $$ [HO H2]
  · isplitl [HO]
    · isplitr; · iexact HE
      iexact HO
    iexact H2
  iintro ⟨HO, Hr, Hz2⟩
  iapply (WP_last (bankWait_wp m K 3 c k rfl (srcw := rC k) (dstw := oC c k) (hsrc := rC_words k) (hdst := oC_words c k) (oC_credit c k)
    (O := 0) (mayWait_zero c _))) $$ [HO H3]
  · isplitl [HO]
    · isplitr; · iexact HE
      iexact HO
    iexact H3
  iintro ⟨HO, Hoy, Hz3⟩
  isplitl [HO]
  · isplitr; · iexact HE
    iexact HO
  isplitl [Ho Hr Hr']
  · isplitl [Ho]; · iexact Ho
    iapply (Entails.of_eq (rCp_halves c k (landV m c)).symm)
    isplitl [Hr]; · iapply (Entails.of_eq (bankPay_2 m c k)) $$ Hr
    iexact Hr'
  isplitl [Hs]; · iapply (Entails.of_eq (bankPay_0 m c k)) $$ Hs
  isplitl [Hoy]; · iapply (Entails.of_eq (bankPay_3 m c k)) $$ Hoy
  isplitl [Hzd]; · iexact Hzd
  isplitl [Hz0]; · iexact Hz0
  isplitl [Hz2] <;> iassumption

end Cert.RelayProof

end
-- ==== Proof.Body.lean ====
/-
# The body

The whole body on one device: from the buffers at launch, the semaphores and the debts, to the result gathered.
-/
module

public import proofs.«01_k».proof.Proof.Stages

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the groups and the chunks -/

/-- A family over the groups is the list of its members, -/
theorem fam8 (Φ : Fin 8 → sProp 𝕄) : bigSep Finset.univ Φ = bigSepL l8 Φ := bigSep_univ_eq_bigSepL l8 (by decide) (by decide) Φ
/-- and so is one over the chunks. -/
theorem fam16 (Φ : Fin 16 → sProp 𝕄) : bigSep Finset.univ Φ = bigSepL l16 Φ := bigSep_univ_eq_bigSepL l16 (by decide) (by decide) Φ

/-- A family over a list of groups' chunks is the groups' pairs. -/
theorem pairsL (Φ : Fin 16 → sProp 𝕄) : ∀ l : List (Fin 8), bigSepL (l.flatMap fun g => [lo g, hi g]) Φ = bigSepL l fun g => iprop(Φ (lo g) ∗ Φ (hi g))
  | [] => rfl
  | g :: l => by
    rw [List.flatMap_cons, bigSepL_append, bigSepL_cons', pairsL Φ l, bigSepL_cons', bigSepL_cons']; exact congrArg (fun X => iprop(X ∗ _)) (congrArg (fun X => iprop(Φ (lo g) ∗ X)) (equiv_iff.mp (BI.sep_emp (P := Φ (hi g)))))
/-- A family over the chunks is the groups' pairs. -/
theorem pairs (Φ : Fin 16 → sProp 𝕄) : bigSep Finset.univ Φ = bigSep Finset.univ fun g : Fin 8 => iprop(Φ (lo g) ∗ Φ (hi g)) := by
  rw [fam8, ← pairsL, fam16]; rfl

/-- The rule for a loop over all groups, -/
theorem loop8 (c : Dev nD) (f : Fin 8 → TProg F) (R : List (Fin 8) → sProp 𝕄) (P Q : Fin 8 → sProp 𝕄)
    (h : ∀ a l, iprop(R (a :: l) ∗ P a) ⊢ WP c (f a) iprop(R l ∗ Q a)) :
    iprop(R l8 ∗ bigSep Finset.univ P) ⊢ WP c (loop f l8) iprop(R [] ∗ bigSep Finset.univ Q) := by
  rw [fam8, fam8]; exact loop_wp c f R P Q h l8
/-- and for one over all chunks. -/
theorem loop16 (c : Dev nD) (f : Fin 16 → TProg F) (R : List (Fin 16) → sProp 𝕄) (P Q : Fin 16 → sProp 𝕄)
    (h : ∀ a l, iprop(R (a :: l) ∗ P a) ⊢ WP c (f a) iprop(R l ∗ Q a)) :
    iprop(R l16 ∗ bigSep Finset.univ P) ⊢ WP c (loop f l16) iprop(R [] ∗ bigSep Finset.univ Q) := by
  rw [fam16, fam16]; exact loop_wp c f R P Q h l16

/-- A family at one contents is a family at some contents. -/
theorem someF {T I : Type} [Fintype I] (P : I → T → sProp 𝕄) (f : T) : bigSep Finset.univ (fun i => P i f) ⊢ bigSep Finset.univ fun i => iprop(∃ f, P i f) :=
  bigSep_mono fun i _ => show P i f ⊢ iprop(∃ f, P i f) by iintro H; iexists f; iexact H

variable (m : (ℓ : Loc nD τ sig) → Buf (Elt F) ℓ)

/-! ## What the body starts from and ends with -/

/-- The semaphores only this core uses, at zero. -/
def locals (c : Dev nD) : sProp 𝕄 :=
  iprop((bigSep Finset.univ fun k : Fin 16 => semVal ((c : Thread nD τ), .dma (dS k)) 0) ∗ semVal ((c : Thread nD τ), .dma ownS) 0
    ∗ (bigSep Finset.univ fun g : Fin 8 => semVal ((c : Thread nD τ), .dma (inS (Fin.castSucc g))) 0) ∗ semVal ((c : Thread nD τ), .dma (inS 8)) 0)

/-- The tokens of the duties device `c` pays on chunk `k`, and its positions on its own cells. -/
def chunkToks (c : Dev nD) (k : Fin 16) : sProp 𝕄 :=
  iprop((dutyTok ER (bankCell 0 c k) 0 false ∗ dutyTok ER (bankCell 1 (xn c) k) 0 false)
    ∗ (dutyTok ER (bankCell 2 c k) 0 false ∗ dutyTok ER (bankCell 3 (yn c) k) 0 false))
/-- Device `c`'s positions on its own cells of chunk `k`. -/
def chunkPos (c : Dev nD) (k : Fin 16) : sProp 𝕄 :=
  iprop(atPos ER (bankCell 0 c k) 0 ∅ 0 ∗ atPos ER (bankCell 1 c k) 0 ∅ 0 ∗ atPos ER (bankCell 2 c k) 0 ∅ 0 ∗ atPos ER (bankCell 3 c k) 0 ∅ 0)
/-- Its credits at launch for chunk `k`: the two receives. -/
def chunkCred (c : Dev nD) (k : Fin 16) : sProp 𝕄 :=
  iprop(cred (tallyAt (bankCell 1 c k) () N) ∗ cred (tallyAt (bankCell 3 c k) () N))
/-- The semaphores of chunk `k`, at zero. -/
def chunkSems (c : Dev nD) (k : Fin 16) : sProp 𝕄 :=
  iprop(semVal (bankCell 0 c k) 0 ∗ semVal (bankCell 1 c k) 0 ∗ semVal (bankCell 2 c k) 0 ∗ semVal (bankCell 3 c k) 0)

/-- What device `c` holds of the protocol: tokens, positions, its own semaphores. -/
def linear (c : Dev nD) : sProp 𝕄 :=
  iprop((dutyTok ER (barCell (xn c)) 0 false ∗ dutyTok ER (barCell (yn c)) 0 true) ∗ (bigSep Finset.univ fun k : Fin 16 => chunkToks c k)
    ∗ (atPos ER (barCell c) 0 ∅ 0 ∗ bigSep Finset.univ fun k : Fin 16 => chunkPos c k) ∗ locals c)
/-- Its credits at launch. -/
def credits (c : Dev nD) : sProp 𝕄 := iprop(cred (tallyAt (barCell c) () 2) ∗ bigSep Finset.univ fun k : Fin 16 => chunkCred c k)

/-- The three scratch buffers, at some contents. -/
def scratch (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ (∃ f : (cc0_scratch2 : Ref sig .tc).ty.Contents (Elt F), ((c : Thread nD τ).loc cc0_scratch2) ↦{fullShare} f))
/-- The argument as at launch and the result at contents `f`. -/
def arrays (c : Dev nD) (f : (main_v1 : Ref sig .tc).ty.Contents (Elt F)) : sProp 𝕄 :=
  iprop((((c : Thread nD τ).loc main_arg0) ↦{fullShare} argV m c) ∗ (((c : Thread nD τ).loc main_v1) ↦{fullShare} f))

/-- All the body starts from. -/
def bodyIn (K : Dev nD × CI → ℕ) (c : Dev nD) : sProp 𝕄 :=
  iprop((env m K ∗ owesE c (O₀ c)) ∗ linear c ∗ credits c ∗ scratch c ∗ ∃ f, arrays m c f)
/-- Every semaphore of the core at zero. -/
def semsOut (c : Dev nD) : sProp 𝕄 :=
  iprop(locals c ∗ (bigSep Finset.univ fun k : Fin 16 => chunkSems c k) ∗ semVal (barCell c) 0)
/-- All it ends with: nothing owed, every semaphore at zero, the result gathered. -/
def bodyOut (c : Dev nD) : sProp 𝕄 :=
  iprop(owesE c 0 ∗ semsOut c ∗ scratch c ∗ arrays m c (outV m c))

/-! ## Families taken apart -/

/-- The tokens of all chunks, kind by kind. -/
theorem toks_eq (c : Dev nD) : bigSep Finset.univ (chunkToks (F := F) c)
    = iprop(((bigSep Finset.univ fun k : Fin 16 => dutyTok ER (bankCell 0 c k) 0 false) ∗ (bigSep Finset.univ fun k : Fin 16 => dutyTok ER (bankCell 1 (xn c) k) 0 false))
      ∗ ((bigSep Finset.univ fun k : Fin 16 => dutyTok ER (bankCell 2 c k) 0 false) ∗ (bigSep Finset.univ fun k : Fin 16 => dutyTok ER (bankCell 3 (yn c) k) 0 false))) := by
  unfold chunkToks; rw [bigSep_sep', bigSep_sep', bigSep_sep']
/-- The positions of all chunks, bank by bank. -/
theorem pos_eq (c : Dev nD) : bigSep Finset.univ (chunkPos (F := F) c)
    = iprop((bigSep Finset.univ fun k : Fin 16 => atPos ER (bankCell 0 c k) 0 ∅ 0) ∗ (bigSep Finset.univ fun k : Fin 16 => atPos ER (bankCell 1 c k) 0 ∅ 0)
      ∗ (bigSep Finset.univ fun k : Fin 16 => atPos ER (bankCell 2 c k) 0 ∅ 0) ∗ (bigSep Finset.univ fun k : Fin 16 => atPos ER (bankCell 3 c k) 0 ∅ 0)) := by
  unfold chunkPos; rw [bigSep_sep', bigSep_sep', bigSep_sep']
/-- The launch credits of all chunks, bank by bank. -/
theorem cred_eq (c : Dev nD) : bigSep Finset.univ (chunkCred (F := F) c)
    = iprop((bigSep Finset.univ fun k : Fin 16 => cred (tallyAt (bankCell 1 c k) () N)) ∗ (bigSep Finset.univ fun k : Fin 16 => cred (tallyAt (bankCell 3 c k) () N))) := by
  unfold chunkCred; rw [bigSep_sep']
/-- The semaphores of all chunks, bank by bank. -/
theorem sems_eq (c : Dev nD) : bigSep Finset.univ (chunkSems (F := F) c)
    = iprop((bigSep Finset.univ fun k : Fin 16 => semVal (bankCell 0 c k) 0) ∗ (bigSep Finset.univ fun k : Fin 16 => semVal (bankCell 1 c k) 0)
      ∗ (bigSep Finset.univ fun k : Fin 16 => semVal (bankCell 2 c k) 0) ∗ (bigSep Finset.univ fun k : Fin 16 => semVal (bankCell 3 c k) 0)) := by
  unfold chunkSems; rw [bigSep_sep', bigSep_sep', bigSep_sep']
/-- What all groups' fetches need, kind by kind. -/
theorem fetch_eq (c : Dev nD) : (bigSep Finset.univ fun g : Fin 8 => iprop(xGp m c g ∗ (∃ f, vGp c g f) ∗ semVal ((c : Thread nD τ), .dma (inS (Fin.castSucc g))) 0))
    = iprop(bigSep Finset.univ (xGp m c) ∗ (bigSep Finset.univ fun g : Fin 8 => iprop(∃ f, vGp c g f))
      ∗ (bigSep Finset.univ fun g : Fin 8 => semVal ((c : Thread nD τ), .dma (inS (Fin.castSucc g))) 0)) := by
  rw [bigSep_sep', bigSep_sep']
/-- What all chunks' sends use up, kind by kind. -/
theorem send_eq (c : Dev nD) : (bigSep Finset.univ fun g : Fin 8 => iprop(sendP (F := F) c (lo g) ∗ sendP c (hi g)))
    = iprop((bigSep Finset.univ fun k : Fin 16 => dutyTok ER (bankCell 0 c k) 0 false) ∗ (bigSep Finset.univ fun k : Fin 16 => dutyTok ER (bankCell 1 (xn c) k) 0 false)
      ∗ (bigSep Finset.univ fun k : Fin 16 => iprop(∃ f, rCp fullShare (xn c) k f))) := by
  rw [← pairs (sendP c)]; unfold sendP; rw [bigSep_sep', bigSep_sep']
/-- What all groups need, kind by kind. -/
theorem groupP_eq (c : Dev nD) : bigSep Finset.univ (groupP m c)
    = iprop(bigSep Finset.univ (fetching m c) ∗ (bigSep Finset.univ fun g : Fin 8 => iprop(∃ f, sGp c g f))
      ∗ (bigSep Finset.univ fun g : Fin 8 => iprop(sendP c (lo g) ∗ sendP c (hi g)))) := by
  unfold groupP; rw [bigSep_sep', bigSep_sep']
/-- What all sends leave, kind by kind. -/
theorem sent_eq (c : Dev nD) : (bigSep Finset.univ fun g : Fin 8 => iprop(sent m c (lo g) ∗ sent m c (hi g)))
    = iprop((bigSep Finset.univ fun k : Fin 16 => sCp fullShare.right c k (castV m c)) ∗ (bigSep Finset.univ fun k : Fin 16 => cred (tallyAt (bankCell 0 c k) () N))) := by
  rw [← pairs (sent m c)]; unfold sent; rw [bigSep_sep']
/-- What all groups leave, kind by kind. -/
theorem groupQ_eq (c : Dev nD) : bigSep Finset.univ (groupQ m c)
    = iprop((((bigSep Finset.univ fun g : Fin 8 => vGp c g (stgV m c)) ∗ bigSep Finset.univ (xGp m c))
        ∗ (bigSep Finset.univ fun g : Fin 8 => semVal ((c : Thread nD τ), .dma (inS (Fin.castSucc g))) 0))
      ∗ (bigSep Finset.univ fun k : Fin 16 => sCp fullShare.right c k (castV m c)) ∗ (bigSep Finset.univ fun k : Fin 16 => cred (tallyAt (bankCell 0 c k) () N))) := by
  rw [← sent_eq]; unfold groupQ; rw [bigSep_sep', bigSep_sep', bigSep_sep']
/-- What all relays need, kind by kind. -/
theorem relayIn_eq (c : Dev nD) : bigSep Finset.univ (relayIn (F := F) c)
    = iprop(((bigSep Finset.univ fun k : Fin 16 => cred (tallyAt (bankCell 1 c k) () N)) ∗ (bigSep Finset.univ fun k : Fin 16 => atPos ER (bankCell 1 c k) 0 ∅ 0))
      ∗ ((bigSep Finset.univ fun k : Fin 16 => dutyTok ER (bankCell 2 c k) 0 false) ∗ (bigSep Finset.univ fun k : Fin 16 => dutyTok ER (bankCell 3 (yn c) k) 0 false)
        ∗ (bigSep Finset.univ fun k : Fin 16 => iprop(∃ f, oCp c (yn c) k f)))
      ∗ (bigSep Finset.univ fun k : Fin 16 => iprop(∃ f, oCp c c k f)) ∗ (bigSep Finset.univ fun k : Fin 16 => semVal ((c : Thread nD τ), .dma (dS k)) 0)) := by
  unfold relayIn relayP; rw [bigSep_sep', bigSep_sep', bigSep_sep', bigSep_sep', bigSep_sep', bigSep_sep']
/-- What all relays leave, kind by kind. -/
theorem relayOut_eq (c : Dev nD) : bigSep Finset.univ (relayOut m c)
    = iprop((bigSep Finset.univ fun k : Fin 16 => semVal (bankCell 1 c k) 0) ∗ (bigSep Finset.univ fun k : Fin 16 => cred (tallyAt (bankCell 2 c k) () N))
      ∗ bigSep Finset.univ (keeping m c)) := by
  unfold relayOut; rw [bigSep_sep', bigSep_sep']
/-- The credits and the positions of a bank's cells. -/
theorem ready_eq (b : Fin 4) (c : Dev nD) : bigSep Finset.univ (ready (F := F) b c)
    = iprop((bigSep Finset.univ fun k : Fin 16 => cred (tallyAt (bankCell b c k) () N)) ∗ (bigSep Finset.univ fun k : Fin 16 => atPos ER (bankCell b c k) 0 ∅ 0)) := by
  unfold ready; rw [bigSep_sep']
/-- What all drains need, kind by kind. -/
theorem drainIn_eq (c : Dev nD) : bigSep Finset.univ (drainIn m c)
    = iprop(bigSep Finset.univ (keeping m c) ∗ bigSep Finset.univ (ready 0 c) ∗ bigSep Finset.univ (ready 2 c) ∗ bigSep Finset.univ (ready 3 c)) := by
  unfold drainIn; rw [bigSep_sep', bigSep_sep', bigSep_sep']
/-- What all drains leave, kind by kind. -/
theorem drainOut_eq (c : Dev nD) : bigSep Finset.univ (drainOut m c)
    = iprop(((bigSep Finset.univ fun k : Fin 16 => oCp c c k (outV m c)) ∗ (bigSep Finset.univ fun k : Fin 16 => rCp fullShare c k (landV m c)))
      ∗ (bigSep Finset.univ fun k : Fin 16 => sCp fullShare.left c k (castV m c)) ∗ (bigSep Finset.univ fun k : Fin 16 => oCp (yn c) c k (outV m c))
      ∗ (bigSep Finset.univ fun k : Fin 16 => semVal ((c : Thread nD τ), .dma (dS k)) 0) ∗ (bigSep Finset.univ fun k : Fin 16 => semVal (bankCell 0 c k) 0)
      ∗ (bigSep Finset.univ fun k : Fin 16 => semVal (bankCell 2 c k) 0) ∗ (bigSep Finset.univ fun k : Fin 16 => semVal (bankCell 3 c k) 0)) := by
  unfold drainOut; rw [bigSep_sep', bigSep_sep', bigSep_sep', bigSep_sep', bigSep_sep', bigSep_sep', bigSep_sep']

/-! ## The body -/

variable (K : Dev nD × CI → ℕ)

/-- The body, its stages in program order. -/
theorem steps_wp (c : Dev nD) : bodyIn m K c ⊢ WP c (steps c) (bodyOut m c) := by
  unfold bodyIn linear credits scratch arrays locals steps
  iintro ⟨⟨#HE, HO⟩, ⟨⟨HtX, HtY⟩, Htok, ⟨HaB, Hpos⟩, HzD, HzO, HzG, HzH⟩, ⟨HcB, Hcr⟩, ⟨⟨%fv, Hv⟩, ⟨%fs, Hs⟩, ⟨%fr, Hr⟩⟩, ⟨%fo, Hx, Ho⟩⟩
  ihave Hx := (Entails.of_eq (arg_parts m c)) $$ Hx
  icases Hx with ⟨HxH, HxG⟩
  ihave Hv := (Entails.of_eq (stg_parts c fv)) $$ Hv
  icases Hv with ⟨HvH, HvG⟩
  ihave HvG := (someF (fun g f => vGp c g f) fv) $$ HvG
  ihave Hs := (Entails.of_eq (cast_parts c fs)) $$ Hs
  icases Hs with ⟨HsH, HsG⟩
  ihave HsG := (someF (fun g f => sGp c g f) fs) $$ HsG
  ihave Hr := (Entails.of_eq (land_parts c fr)) $$ Hr
  ihave Hr := (someF (fun k f => rCp fullShare c k f) fr) $$ Hr
  ihave Ho := (Entails.of_eq (out_parts c fo)) $$ Ho
  icases Ho with ⟨HoO, HoC, HoY⟩
  ihave HoC := (someF (fun k f => oCp c c k f) fo) $$ HoC
  ihave HoY := (someF (fun k f => oCp (yn c) c k f) fo) $$ HoY
  -- the fetches
  iapply (WP_then (loop8 c (fetch c) (fun _ => iprop(emp)) (fun g => iprop(xGp m c g ∗ (∃ f, vGp c g f) ∗ semVal ((c : Thread nD τ), .dma (inS (Fin.castSucc g))) 0))
    (fetching m c) fun g l => by
      iintro ⟨-, H⟩
      iapply (WP_last (fetch_wp m c g)) $$ H
      iintro H; isplitr; · iempintro
      iexact H)) $$ [HxG HvG HzG]
  · isplitr; · iempintro
    iapply (Entails.of_eq (fetch_eq m c).symm)
    isplitl [HxG]; · iexact HxG
    isplitl [HvG] <;> iassumption
  iintro ⟨-, HF⟩
  iapply (WP_then (fetchH_wp m c)) $$ [HxH HvH HzH]
  · isplitl [HxH]; · iexact HxH
    isplitl [HvH]; · iexists fv; iexact HvH
    iexact HzH
  iintro HFH
  -- the handshake
  iapply (WP_then (hand_wp m K c)) $$ [HO HtX HtY Hr HoY HcB HaB]
  · isplitl [HO]
    · isplitr; · iexact HE
      iexact HO
    isplitl [HtX Hr]
    · isplitl [HtX]; · iexact HtX
      rw [rPay_xn]; iexact Hr
    isplitl [HtY HoY]
    · isplitl [HtY]; · iexact HtY
      rw [oPay_yn]; iexact HoY
    isplitl [HcB] <;> iassumption
  iintro ⟨HO, Hr, HoY, HzB⟩
  unfold rPay oPay
  ihave Htok := (Entails.of_eq (toks_eq c)) $$ Htok
  icases Htok with ⟨⟨Ht0, Ht1⟩, ⟨Ht2, Ht3⟩⟩
  ihave Hpos := (Entails.of_eq (pos_eq c)) $$ Hpos
  icases Hpos with ⟨Ha0, Ha1, Ha2, Ha3⟩
  ihave Hcr := (Entails.of_eq (cred_eq c)) $$ Hcr
  icases Hcr with ⟨Hc1, Hc3⟩
  -- the casts and the first phase
  ihave HS := (Entails.of_eq (send_eq c).symm) $$ [Ht0 Ht1 Hr]
  · isplitl [Ht0]; · iexact Ht0
    isplitl [Ht1] <;> iassumption
  iapply (WP_then (loop8 c (group c) (fun l => iprop(env m K ∗ owesE c (owedG c l))) (groupP m c) (groupQ m c) (group_wp m K c))) $$ [HO HF HsG HS]
  · isplitl [HO]
    · isplitr; · iexact HE
      iexact HO
    iapply (Entails.of_eq (groupP_eq m c).symm)
    isplitl [HF]; · iexact HF
    isplitl [HsG] <;> iassumption
  iintro ⟨⟨-, HO⟩, HG⟩
  ihave HG := (Entails.of_eq (groupQ_eq m c)) $$ HG
  icases HG with ⟨⟨⟨HvG, HxG⟩, HzG⟩, ⟨HsC, Hc0⟩⟩
  -- the kept half
  iapply (WP_then (castH_wp m K c [])) $$ [HO HFH HsH]
  · isplitl [HO]
    · isplitr; · iexact HE
      iexact HO
    isplitl [HFH]; · iexact HFH
    iexists fs; iexact HsH
  iintro ⟨HO, ⟨⟨HvH, HxH⟩, HzH⟩, HsH⟩
  ihave HsH := (Entails.of_eq (sHp_halves c (castV m c))) $$ HsH
  icases HsH with ⟨HsHl, HsHr⟩
  -- the own block
  ihave HsR := (Entails.of_eq (cast_chunks m fullShare.right c).symm) $$ [HsHr HsC]
  · isplitl [HsHr] <;> iassumption
  iapply (WP_then (own_wp m c)) $$ [HsR HoO HzO]
  · isplitl [HsR]; · iexact HsR
    isplitl [HoO]; · iexists fo; iexact HoO
    iexact HzO
  iintro HFO
  -- the relay
  iapply (WP_then (loop16 c (relay c) (fun l => iprop(env m K ∗ owesE c (owedR c l))) (relayIn c) (relayOut m c) (relay_wp m K c)))
    $$ [HO Hc1 Ha1 Ht2 Ht3 HoY HoC HzD]
  · isplitl [HO]
    · isplitr; · iexact HE
      iexact HO
    iapply (Entails.of_eq (relayIn_eq c).symm)
    isplitl [Hc1 Ha1]
    · isplitl [Hc1] <;> iassumption
    isplitl [Ht2 Ht3 HoY]
    · isplitl [Ht2]; · iexact Ht2
      isplitl [Ht3] <;> iassumption
    isplitl [HoC] <;> iassumption
  iintro ⟨⟨-, HO⟩, HR⟩
  ihave HR := (Entails.of_eq (relayOut_eq m c)) $$ HR
  icases HR with ⟨Hz1, Hc2, HK⟩
  -- the own block's arrival
  iapply (WP_then (ownWait_wp m c)) $$ [HO HFO]
  · isplitl [HO]
    · isplitr; · iapply (env_lev m K); iexact HE
      iexact HO
    iexact HFO
  iintro ⟨HO, ⟨HoO, HsR⟩, HzO⟩
  -- the drain
  iapply (WP_last (loop16 c (drain c) (fun _ => iprop(env m K ∗ owesE c 0)) (drainIn m c) (drainOut m c) fun k _ => drain_wp m K c k))
    $$ [HO HK Hc0 Ha0 Hc2 Ha2 Hc3 Ha3]
  · isplitl [HO]
    · isplitr; · iexact HE
      iexact HO
    iapply (Entails.of_eq (drainIn_eq m c).symm)
    isplitl [HK]; · iexact HK
    isplitl [Hc0 Ha0]
    · iapply (Entails.of_eq (ready_eq 0 c).symm)
      isplitl [Hc0] <;> iassumption
    isplitl [Hc2 Ha2]
    · iapply (Entails.of_eq (ready_eq 2 c).symm)
      isplitl [Hc2] <;> iassumption
    iapply (Entails.of_eq (ready_eq 3 c).symm)
    isplitl [Hc3] <;> iassumption
  iintro ⟨⟨-, HO⟩, HD⟩
  ihave HD := (Entails.of_eq (drainOut_eq m c)) $$ HD
  icases HD with ⟨⟨HoC, Hr⟩, HsCl, HoY, HzD, Hz0, Hz2, Hz3⟩
  unfold bodyOut semsOut locals scratch arrays
  isplitl [HO]; · iexact HO
  isplitl [HzD HzO HzG HzH Hz0 Hz1 Hz2 Hz3 HzB]
  · isplitl [HzD HzO HzG HzH]
    · isplitl [HzD]; · iexact HzD
      isplitl [HzO]; · iexact HzO
      isplitl [HzG] <;> iassumption
    isplitl [Hz0 Hz1 Hz2 Hz3]
    · iapply (Entails.of_eq (sems_eq c).symm)
      isplitl [Hz0]; · iexact Hz0
      isplitl [Hz1]; · iexact Hz1
      isplitl [Hz2] <;> iassumption
    iexact HzB
  isplitl [HvH HvG HsHl HsCl HsR Hr]
  · isplitl [HvH HvG]
    · iexists (stgV m c)
      iapply (Entails.of_eq (stg_parts c (stgV m c)).symm)
      isplitl [HvH] <;> iassumption
    isplitl [HsHl HsCl HsR]
    · iexists (castV m c)
      iapply (Entails.of_eq ((sMp_eq m fullShare c).symm.trans (sMp_halves m c)).symm)
      isplitl [HsHl HsCl]
      · iapply (Entails.of_eq (cast_chunks m fullShare.left c).symm)
        isplitl [HsHl] <;> iassumption
      iexact HsR
    · iexists (landV m c)
      iapply (Entails.of_eq (land_parts c (landV m c)).symm) $$ Hr
  isplitl [HxH HxG]
  · iapply (Entails.of_eq (arg_parts m c).symm)
    isplitl [HxH] <;> iassumption
  iapply (Entails.of_eq (out_parts c (outV m c)).symm)
  isplitl [HoO]; · iexact HoO
  isplitl [HoC] <;> iassumption

end Cert.RelayProof

end
-- ==== Proof.Cells.lean ====
/-
# The shared cells at launch

Every device's barrier and transfer semaphores become cells of the protocol under one update, each duty's token goes to
the device that pays it, and the launch credits are those the body waits with.
-/
module

public import proofs.«01_k».proof.Proof.Body
public import Idealize.ShloMosaic.Lib.Quiescent

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The kernel's semaphores: the four banks, then those of the local copies. -/
abbrev OI : Type := (Fin 4 × Fin 16) ⊕ (Fin 16 ⊕ (Unit ⊕ (Fin 8 ⊕ Unit)))
/-- The semaphore that each of them is. -/
abbrev odma : OI → DmaSem sig
  | .inl bk => bank bk.1 bk.2
  | .inr (.inl k) => dS k
  | .inr (.inr (.inl _)) => ownS
  | .inr (.inr (.inr (.inl g))) => inS (Fin.castSucc g)
  | .inr (.inr (.inr (.inr _))) => inS 8
/-- The same, among all semaphores. -/
abbrev osem (i : OI) : SemLoc sig := .dma (odma i)

/-- The semaphore numbered `n`. -/
def onum (n : ℕ) : OI :=
  if n < 64 then .inl (⟨n / 16 % 4, Nat.mod_lt _ (by decide)⟩, ⟨n % 16, Nat.mod_lt _ (by decide)⟩)
  else if n < 80 then .inr (.inl ⟨n % 16, Nat.mod_lt _ (by decide)⟩)
  else if n = 80 then .inr (.inr (.inl ()))
  else if n < 89 then .inr (.inr (.inr (.inl ⟨(n - 81) % 8, Nat.mod_lt _ (by decide)⟩)))
  else .inr (.inr (.inr (.inr ())))

/-- A semaphore's number tells which it is. -/
theorem onum_odma (i : OI) : onum (odma i).val = i := by revert i; decide

/-- The kernel's semaphores are its own and distinct. -/
theorem ownSemFacts : Pipeline.OwnSemFacts cfg0.spec osem where
  isScoped := fun k => by revert k; decide
  inj := fun i j h => by rw [← onum_odma i, ← onum_odma j, SemLoc.dma.inj h]
  disj := fun _ w => w.elim0

/-! ## Families over the cells -/

/-- A family over the four banks, bank by bank. -/
theorem banks (Φ : Fin 4 × Fin 16 → sProp 𝕄) : bigSep Finset.univ Φ
    = iprop((bigSep Finset.univ fun k : Fin 16 => Φ (0, k)) ∗ (bigSep Finset.univ fun k : Fin 16 => Φ (1, k))
      ∗ (bigSep Finset.univ fun k : Fin 16 => Φ (2, k)) ∗ (bigSep Finset.univ fun k : Fin 16 => Φ (3, k))) := by
  rw [bigSep_univ_prod, bigSep_univ_eq_bigSepL [0, 1, 2, 3] (by decide) (by decide)]; rfl
/-- A family with one member. -/
theorem famUnit (Φ : Unit → sProp 𝕄) : bigSep Finset.univ Φ = Φ () := by
  rw [bigSep_univ_eq_bigSepL [()] (by decide) (by decide)]; rfl
/-- A family over a device's shared cells: the barrier's member and the banks'. -/
theorem cellsFam (Φ : CI → sProp 𝕄) : bigSep Finset.univ Φ = iprop(Φ (.inl ()) ∗ bigSep Finset.univ fun bk : Fin 4 × Fin 16 => Φ (.inr bk)) := by
  rw [bigSep_univ_sum, famUnit]; rfl
/-- A family with two members. -/
theorem famBool (Φ : Bool → sProp 𝕄) : bigSep Finset.univ Φ = iprop(Φ false ∗ Φ true) := by
  rw [bigSep_univ_eq_bigSepL [false, true] (by decide) (by decide)]; rfl

/-! ## Funding -/

/-- The shared cells of all devices. -/
def relayCells : Finset (GSem nD τ sig) := Finset.univ.map ⟨kcell, kcell_injective⟩

/-- The duties of one device's own cells: its barrier's two, and one of each bank's cell. -/
abbrev TI : Type := Bool ⊕ (Fin 4 × Fin 16)
/-- The cell, round and duty of each. -/
abbrev tokOf (ct : Dev nD × TI) : GSem nD τ sig × ℕ × Bool := match ct.2 with
  | .inl d => (barCell ct.1, 0, d)
  | .inr bk => (bankCell bk.1 ct.1 bk.2, 0, false)
/-- The duties are distinct. -/
theorem tokOf_injective : Function.Injective tokOf := by
  rintro ⟨c, d | bk⟩ ⟨c', d' | bk'⟩ h
  · have h1 : ((c, .inl ()) : Dev nD × CI) = (c', .inl ()) := kcell_injective (congrArg Prod.fst h)
    have h2 : d = d' := congrArg (fun x : GSem nD τ sig × ℕ × Bool => x.2.2) h
    obtain rfl : c = c' := congrArg Prod.fst h1
    rw [h2]
  · have h1 : ((c, .inl ()) : Dev nD × CI) = (c', .inr bk') := kcell_injective (congrArg Prod.fst h)
    exact absurd (congrArg Prod.snd h1) (fun h => by cases h)
  · have h1 : ((c, .inr bk) : Dev nD × CI) = (c', .inl ()) := kcell_injective (congrArg Prod.fst h)
    exact absurd (congrArg Prod.snd h1) (fun h => by cases h)
  · have h1 : ((c, .inr bk) : Dev nD × CI) = (c', .inr bk') := kcell_injective (congrArg Prod.fst h)
    obtain rfl : c = c' := congrArg Prod.fst h1
    rw [Sum.inr.inj (congrArg Prod.snd h1)]
/-- The duties of all cells. -/
def relayToks : Finset (GSem nD τ sig × ℕ × Bool) := Finset.univ.map ⟨tokOf, tokOf_injective⟩

/-- The launch element: the pipeline's part, the protocol's, and no local copy in flight. -/
def u₀ : UU :=
  (initOf (Pipeline.cells cfgs cellOf_inj) (Pipeline.launchToks cfgs cellOf_inj), (initOf relayCells relayToks, 1))

/-- The launch element is the pipeline's part and the protocol's. -/
theorem u₀_split : (ownU u₀ : sProp 𝕄)
    ⊢ iprop(BI.own (EP (F := F) (initOf (Pipeline.cells cfgs cellOf_inj) (Pipeline.launchToks cfgs cellOf_inj))) ∗ BI.own (ER (F := F) (initOf relayCells relayToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (_, (1 : Counters)))))

/-- The tokens of device `c`'s own cells. -/
def toks (c : Dev nD) : sProp 𝕄 :=
  iprop((dutyTok ER (barCell c) 0 false ∗ dutyTok ER (barCell c) 0 true)
    ∗ bigSep Finset.univ fun bk : Fin 4 × Fin 16 => dutyTok ER (bankCell bk.1 c bk.2) 0 false)

/-- What the launch element deals device `c`. -/
def G (c : Dev nD) : sProp 𝕄 :=
  iprop((bigSep Finset.univ fun i : CI => roundState ER (relayRd m) (kcell (c, i)) 0)
    ∗ (bigSep Finset.univ fun i : CI => atPos ER (kcell (c, i)) 0 ∅ 0) ∗ (bigSep Finset.univ fun i : CI => reached ER (kcell (c, i)) 0) ∗ toks c)

/-- The protocol's part deals every device its cells' states, positions and tokens. -/
theorem fund_relay : BI.own (ER (F := F) (initOf relayCells relayToks)) ⊢ (|==> bigSep Finset.univ (G m) : sProp 𝕄) := by
  have hX (Φ : GSem nD τ sig → sProp 𝕄) : bigSep relayCells Φ = bigSep Finset.univ fun c : Dev nD => bigSep Finset.univ fun i : CI => Φ (kcell (c, i)) := by
    unfold relayCells; rw [bigSep_map, bigSep_univ_prod]; rfl
  have hT : bigSep relayToks (fun x => (dutyTok ER x.1 x.2.1 x.2.2 : sProp 𝕄)) = bigSep Finset.univ fun c : Dev nD => toks c := by
    unfold relayToks; rw [bigSep_map, bigSep_univ_prod]
    exact bigSep_congr fun c _ => by unfold toks; rw [bigSep_univ_sum, famBool]; rfl
  iintro HX
  imod (Rounds.fund ER (relayRd m) relayCells relayToks) $$ HX with ⟨Hst, Hr, Hat, Htok⟩
  imodintro
  ihave Hst' := (Entails.of_eq (hX fun g => roundState ER (relayRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The cells' invariants -/

/-- The kernel's semaphores at zero: the banks, and the local ones. -/
theorem ownSems0_eq (c : Dev nD) : (Pipeline.ownSems0 (Ix := Unit) (Name := ℕ) (U := UU) (Lvl := ℕ) (Val := Elt F) (τ := τ) osem c : sProp 𝕄)
    = iprop((bigSep Finset.univ fun bk : Fin 4 × Fin 16 => semVal (bankCell bk.1 c bk.2) 0) ∗ locals c) := by
  unfold Pipeline.ownSems0 locals
  rw [bigSep_univ_sum, bigSep_univ_sum, bigSep_univ_sum, bigSep_univ_sum, famUnit, famUnit]; rfl
/-- The barrier semaphore, the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- What the semaphores of device `c` become. -/
def dealt (c : Dev nD) : sProp 𝕄 :=
  iprop((bigSep Finset.univ fun i : CI => iprop(∃ κ : ℕ, cellInv ER (relayRd m) κ (kcell (c, i))))
    ∗ (bigSep Finset.univ fun i : CI => atPos ER (kcell (c, i)) 0 ∅ 0) ∗ (bigSep Finset.univ fun i : CI => reached ER (kcell (c, i)) 0)
    ∗ toks c ∗ locals c)

/-- Device `c`'s semaphores at zero become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  rw [ownSems0_eq, unscopedSems0_eq]
  unfold G dealt
  iintro ⟨⟨Hos, Hloc⟩, Hus, Hst, Hat, Hre, Htok⟩
  ihave Hv := (Entails.of_eq (cellsFam fun i : CI => (semVal (kcell (c, i)) 0 : sProp 𝕄)).symm) $$ [Hos Hus]
  · isplitl [Hus] <;> iassumption
  imod (show iprop((bigSep Finset.univ fun i : CI => semVal (kcell (c, i)) 0) ∗ bigSep Finset.univ fun i : CI => roundState ER (relayRd m) (kcell (c, i)) 0)
      ⊢ (|={Set.univ}=> bigSep Finset.univ fun i : CI => iprop(∃ κ : ℕ, cellInv ER (relayRd m) κ (kcell (c, i))) : sProp 𝕄) from by
        rw [← bigSep_sep']
        exact (bigSep_mono fun i _ => (Rounds.body_intro ER (relayRd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hre]; · iexact Hre
  isplitl [Htok] <;> iassumption

/-- The tokens a device pays with. -/
def payToks (c : Dev nD) : sProp 𝕄 :=
  iprop((dutyTok ER (barCell (xn c)) 0 false ∗ dutyTok ER (barCell (yn c)) 0 true) ∗ bigSep Finset.univ (chunkToks c))

/-- Each token to the device that pays the duty: a barrier's two to the two partners, a receive cell's to the partner that sends. -/
theorem toks_dealt : (bigSep Finset.univ fun c : Dev nD => (toks c : sProp 𝕄)) ⊢ bigSep Finset.univ fun c : Dev nD => payToks c := by
  have h1 : ∀ c : Dev nD, (toks c : sProp 𝕄) = iprop((dutyTok ER (barCell c) 0 false ∗ dutyTok ER (barCell c) 0 true)
      ∗ (bigSep Finset.univ fun k : Fin 16 => dutyTok ER (bankCell 0 c k) 0 false) ∗ (bigSep Finset.univ fun k : Fin 16 => dutyTok ER (bankCell 1 c k) 0 false)
      ∗ (bigSep Finset.univ fun k : Fin 16 => dutyTok ER (bankCell 2 c k) 0 false) ∗ (bigSep Finset.univ fun k : Fin 16 => dutyTok ER (bankCell 3 c k) 0 false)) := fun c => by
    unfold toks; rw [banks]
  rw [bigSep_congr fun c _ => h1 c]
  unfold payToks
  rw [bigSep_congr (s := Finset.univ) fun (c : Dev nD) _ => congrArg (fun X => iprop((dutyTok ER (barCell (xn c)) 0 false ∗ dutyTok ER (barCell (yn c)) 0 true) ∗ X)) (toks_eq (F := F) c)]
  simp only [bigSep_sep' (I := Dev nD)]
  rw [bigSep_univ_equiv xEquiv (fun c : Dev nD => (dutyTok ER (barCell c) 0 false : sProp 𝕄)),
    bigSep_univ_equiv yEquiv (fun c : Dev nD => (dutyTok ER (barCell c) 0 true : sProp 𝕄)),
    bigSep_univ_equiv xEquiv (fun c : Dev nD => bigSep Finset.univ fun k : Fin 16 => (dutyTok ER (bankCell 1 c k) 0 false : sProp 𝕄)),
    bigSep_univ_equiv yEquiv (fun c : Dev nD => bigSep Finset.univ fun k : Fin 16 => (dutyTok ER (bankCell 3 c k) 0 false : sProp 𝕄))]
  iintro ⟨⟨HA, HB⟩, H0, H1, H2, H3⟩
  isplitl [HA HB]
  · isplitl [HA]; · iexact HA
    iexact HB
  isplitl [H0 H1]
  · isplitl [H0]; · iexact H0
    iexact H1
  isplitl [H2]; · iexact H2
  iexact H3

/-- A device's positions: on its barrier and chunk by chunk. -/
theorem pos_dealt (c : Dev nD) : (bigSep Finset.univ fun i : CI => (atPos ER (kcell (c, i)) 0 ∅ 0 : sProp 𝕄))
    = iprop(atPos ER (barCell c) 0 ∅ 0 ∗ bigSep Finset.univ (chunkPos c)) := by
  rw [cellsFam, banks, pos_eq]

/-- What device `c` starts with of the protocol. -/
def G' (c : Dev nD) : sProp 𝕄 := iprop(∃ K, allInv m K ∗ allReached ∗ linear c)

/-- What everyone knows goes to each device along with its own part. -/
theorem give_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  have hR : R ⊢ bigSep Finset.univ fun _ : Dev nD => R := BI.bigSep_of_persistent Finset.univ R
  refine BIBase.Entails.trans (sep_mono_left hR) ?_
  rw [← bigSep_sep']
  exact bigSep_mono fun c _ => h c

/-- What the devices were dealt, with each token at its payer and the invariants known to all. -/
theorem regroup : (bigSep Finset.univ fun c : Dev nD => dealt m c) ⊢ bigSep Finset.univ (G' m) := by
  unfold dealt
  simp only [bigSep_sep' (I := Dev nD)]
  rw [← bigSep_univ_prod (fun ci : Dev nD × CI => iprop(∃ κ : ℕ, cellInv ER (relayRd m) κ (kcell ci))),
    ← bigSep_univ_prod (fun ci : Dev nD × CI => (reached ER (kcell ci) 0 : sProp 𝕄))]
  iintro ⟨HI, Hat, #HR, Htok, Hloc⟩
  ihave HK := (BI.bigSep_exists_pi Finset.univ (fun (ci : Dev nD × CI) (κ : ℕ) => (cellInv ER (relayRd m) κ (kcell ci) : sProp 𝕄))) $$ HI
  icases HK with ⟨%K, #HI⟩
  ihave Htk := (toks_dealt (F := F)) $$ Htok
  iapply (give_all (R := iprop(allInv m K ∗ allReached)) (Φ := fun c => linear c) fun c => by
    unfold G'
    iintro ⟨⟨HI, HR⟩, HL⟩
    iexists K
    isplitl [HI]; · iexact HI
    isplitl [HR] <;> iassumption)
  isplitr
  · unfold allInv allReached; isplitl; · iexact HI
    iexact HR
  · have hl : ∀ c : Dev nD, (linear c : sProp 𝕄) = iprop(payToks c ∗ (bigSep Finset.univ fun i : CI => (atPos ER (kcell (c, i)) 0 ∅ 0 : sProp 𝕄)) ∗ locals c) := fun c => by
      rw [pos_dealt]; unfold linear payToks
      exact (biEq Laws.sep_assoc).symm
    rw [bigSep_congr fun c _ => hl c]
    simp only [bigSep_sep' (I := Dev nD)]
    isplitl [Htk]; · iexact Htk
    isplitl [Hat]; · iexact Hat
    iexact Hloc

/-- All devices' semaphores at once become the protocol's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

/-- What is owed for relays is a sum over the chunks, -/
theorem owedR_sum (c : Dev nD) : ∀ l, owedR c l = (l.map (t2 c)).sum
  | [] => rfl
  | k :: l => by rw [List.map_cons, List.sum_cons, ← owedR_sum c l, add_comm]; rfl
/-- and what is owed for the groups adds one over their chunks. -/
theorem owedG_sum (c : Dev nD) : ∀ l, owedG c l = owedR c l16 + ((l.flatMap fun g => [lo g, hi g]).map (t1 c)).sum
  | [] => (add_zero _).symm
  | g :: l => by
    rw [List.flatMap_cons, List.map_append, List.sum_append]
    show owedG c l + t1 c (hi g) + t1 c (lo g) = _
    rw [owedG_sum c l, List.map_cons, List.map_cons, List.map_nil, List.sum_cons, List.sum_cons, List.sum_nil]
    rw [add_zero, add_assoc (owedR c l16), add_assoc (owedR c l16), add_assoc, add_comm (t1 c (hi g)), add_comm (List.sum _)]
/-- A sum over the list of chunks is one over all of them. -/
theorem sum16 {T : Type} [AddCommMonoid T] (f : Fin 16 → T) : (l16.map f).sum = ∑ k, f k := (Fin.sum_univ_def f).symm ▸ rfl
/-- All a device owes at launch. -/
theorem O₀_eq (c : Dev nD) : O₀ c = (∑ k, t2 c k) + (∑ k, t1 c k) + tallyAt (barCell (yn c)) () 1 + tallyAt (barCell (xn c)) () 1 := by
  unfold O₀ O₁
  rw [owedG_sum, owedR_sum, sum16, show (l8.flatMap fun g => [lo g, hi g]) = l16 from rfl, sum16]

/-- Two banks' cells are the same only at the same bank, device and chunk, -/
theorem bank_cell_iff {b b' : Fin 4} {c c' : Dev nD} {k k' : Fin 16} : bankCell b c k = bankCell b' c' k' ↔ b = b' ∧ c = c' ∧ k = k' :=
  ⟨fun h => by
    have h1 : ((c, .inr (b, k)) : Dev nD × CI) = (c', .inr (b', k')) := kcell_injective h
    have h2 := Sum.inr.inj (congrArg Prod.snd h1)
    exact ⟨congrArg Prod.fst h2, congrArg Prod.fst h1, congrArg Prod.snd h2⟩, fun h => by rw [h.1, h.2.1, h.2.2]⟩
/-- two barrier cells only at the same device, -/
theorem bar_cell_iff {c c' : Dev nD} : barCell c = barCell c' ↔ c = c' :=
  ⟨fun h => congrArg (fun g : GSem nD τ sig => g.1.1) h, fun h => by rw [h]⟩
/-- and a bank's cell is never a barrier's. -/
theorem bank_ne_bar (b : Fin 4) (c c' : Dev nD) (k : Fin 16) : bankCell b c k ≠ barCell c' := fun h => by
  have := congrArg Prod.snd h; cases this

/-- What device `d` owes device `c`'s barrier at launch: one unit if it is a partner. -/
theorem O₀_bar (d c : Dev nD) : O₀ d (barCell c) () = (if c = yn d then 1 else 0) + (if c = xn d then 1 else 0) := by
  rw [O₀_eq]
  simp only [Pi.add_apply, Finsupp.add_apply, Finset.sum_apply, Finsupp.finset_sum_apply, t1, t2, tallyAt_apply, bar_cell_iff,
    (bank_ne_bar _ _ _ _).symm, false_and, and_true, if_false, Finset.sum_const_zero, zero_add]
/-- What device `d` owes a bank's cell of device `c` at launch: a chunk, on the receive bank of the phase in which it sends to `c`. -/
theorem O₀_bank (b : Fin 4) (d c : Dev nD) (k : Fin 16) : O₀ d (bankCell b c k) ()
    = (if b = 3 ∧ c = yn d then N else 0) + (if b = 1 ∧ c = xn d then N else 0) := by
  have hs : ∀ (p : Prop) [Decidable p], (∑ j : Fin 16, if p ∧ k = j then N else 0) = if p then N else 0 := fun p _ => by
    by_cases hp : p
    · simp only [hp, true_and, if_true, Finset.sum_ite_eq, Finset.mem_univ]
    · simp only [hp, false_and, if_false, Finset.sum_const_zero]
  rw [O₀_eq]
  simp only [Pi.add_apply, Finsupp.add_apply, Finset.sum_apply, Finsupp.finset_sum_apply, t1, t2, tallyAt_apply, bank_cell_iff,
    bank_ne_bar, false_and, and_true, if_false, add_zero, ← and_assoc, hs]

/-- Being the partner along the first axis is mutual, -/
theorem xn_iff (c d : Dev nD) : c = xn d ↔ d = xn c := ⟨fun h => by rw [h, xn_xn], fun h => by rw [h, xn_xn]⟩
/-- and along the second. -/
theorem yn_iff (c d : Dev nD) : c = yn d ↔ d = yn c := ⟨fun h => by rw [h, yn_yn], fun h => by rw [h, yn_yn]⟩

/-- The launch credit on a barrier is two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib]
  simp only [xn_iff c, yn_iff c, Finset.sum_ite_eq', Finset.mem_univ, if_true]
/-- and on a receive cell a chunk. -/
theorem launch_bank (b : Fin 4) (hb : b = 1 ∨ b = 3) (c : Dev nD) (k : Fin 16) :
    tallyOn (bankCell b c k) (launchCredit (Pipeline.owing O₀) 0 (bankCell b c k)) = (tallyAt (bankCell b c k) () N : CellTallies nD τ sig Unit) := by
  unfold tallyAt; refine congrArg _ (Finsupp.ext fun u => ?_); cases u
  rw [Pipeline.launchCredit_owing, Finsupp.single_eq_same, Finset.sum_congr rfl fun d _ => O₀_bank b d c k, Finset.sum_add_distrib]
  rcases hb with rfl | rfl
  · simp only [xn_iff c, true_and, show ¬((1 : Fin 4) = 3) from by decide, false_and, if_false, Finset.sum_const_zero, zero_add, Finset.sum_ite_eq', Finset.mem_univ, if_true]
  · simp only [yn_iff c, true_and, show ¬((3 : Fin 4) = 1) from by decide, false_and, if_false, Finset.sum_const_zero, add_zero, Finset.sum_ite_eq', Finset.mem_univ, if_true]

/-- The semaphores that take transfers between devices. -/
def bankSet : Finset (SemLoc sig) := Finset.univ.map ⟨fun bk : Fin 4 × Fin 16 => (.dma (bank bk.1 bk.2) : SemLoc sig), fun i j h => by
  obtain ⟨h1, h2⟩ := bank_injective (SemLoc.dma.inj h); exact Prod.ext h1 h2⟩

/-- The launch credits are those the body waits with. -/
theorem creds (c : Dev nD) : (Pipeline.launchCred O₀ c : sProp 𝕄) ⊢ credits c := by
  unfold Pipeline.launchCred credits
  rw [bigSep_univ_at _ (SemLoc.reg barS), launch_bar]
  refine sep_mono_right ?_
  refine BIBase.Entails.trans (bigSep_subset (t := bankSet) fun x hx => ?_) ?_
  · obtain ⟨bk, -, rfl⟩ := Finset.mem_map.mp hx
    exact Finset.mem_erase.mpr ⟨fun h => (by cases h), Finset.mem_univ _⟩
  · unfold bankSet
    rw [bigSep_map, banks, cred_eq]
    iintro ⟨-, H1, -, H3⟩
    isplitl [H1]
    · iapply (Entails.of_eq (bigSep_congr fun k _ => congrArg cred (launch_bank 1 (Or.inl rfl) c k))) $$ H1
    · iapply (Entails.of_eq (bigSep_congr fun k _ => congrArg cred (launch_bank 3 (Or.inr rfl) c k))) $$ H3

end Cert.RelayProof

end
-- ==== Proof.Run.lean ====
/-
# The run

The body as the launch calls it, and the whole program: every device's result gathered, its argument unchanged, every
semaphore at zero.
-/
module

public import proofs.«01_k».proof.Proof.Cells
public import Idealize.ShloMosaic.Lib.Pipeline.CollectiveSegs

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The memory at launch. -/
def s₀ : MemSt nD τ sig (Elt F) := ⟨m, fun _ => 0, ρ⟩

/-- What the core holds before the body, and after it. -/
def Φ₀ (c : Dev nD) : sProp 𝕄 := iprop((G' m c ∗ credits c ∗ levAts L lv ∗ ∃ f, arrays m c f) ∗ scratch c)
/-- What it holds after the body. -/
def Φ₁ (c : Dev nD) : sProp 𝕄 := iprop(semsOut c ∗ scratch c ∗ arrays m c (outV m c))

/-- The kernel stages no window: only the invariant and the debts are said. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A family over the windows is empty. -/
theorem noWindow (Φ : Fin cfg0.W → sProp 𝕄) : bigSep Finset.univ Φ = iprop(emp) := by
  rw [show (Finset.univ : Finset (Fin cfg0.W)) = ∅ from rfl, bigSep_empty]; rfl

/-! ## The body as the launch calls it -/

/-- The body, from what the core holds at the start to what it holds at the end. -/
theorem body_wp (c : Dev nD) : Φ₀ m c ∗ owesE c (O₀ c) ⊢ WP c (bodyAt0 t0_0) iprop(Φ₁ m c ∗ owesE c 0) := by
  rw [body_eq]
  show _ ⊢ wp frame (wpE (defs₀ (F := F)) 𝒱₀ (c : Thread nD τ) none) Set.univ (.op .deviceId fun d0 => steps d0) fun _ => _
  rw [wp_deviceId]
  unfold Φ₀ G'
  iintro ⟨⟨⟨⟨%K, HI, HR, HL⟩, Hc, Hlev, Hx⟩, Hs⟩, HO⟩
  iapply (WP_last (steps_wp m K c)) $$ [HI HR HL Hc Hlev Hx Hs HO]
  · unfold bodyIn env
    isplitl [HI HR Hlev HO]
    · isplitl [HI HR Hlev]
      · isplitl [HI]; · iexact HI
        isplitl [HR] <;> iassumption
      iexact HO
    isplitl [HL]; · iexact HL
    isplitl [Hc]; · iexact Hc
    isplitl [Hs] <;> iassumption
  unfold bodyOut Φ₁
  iintro ⟨HO, Hz, Hs, Hx⟩
  isplitl [Hz Hs Hx]
  · isplitl [Hz]; · iexact Hz
    isplitl [Hs] <;> iassumption
  iexact HO

set_option maxRecDepth 8000 in
/-- The body at the one grid point, as the launch asks for it. -/
theorem body_obligation (c : Dev nD) : BodyObligation (dats m ρ 0 c) (defs₀ (F := F)) 𝒱₀ () Set.univ := fun t => by
  rw [fin_N0 t, noWindow, noWindow]
  have e1 : (defs₀ (F := F)) .tc cfg0.body (cfg0.bodyArgs t0_0 (cfg0.slots t0_0)) = bodyAt0 t0_0 := rfl
  have e2 : (dats m ρ 0 c).Φ t0_0.castSucc = Φ₀ m c := rfl
  have e3 : (dats m ρ 0 c).Φ t0_0.succ = Φ₁ m c := rfl
  have e4 : (dats m ρ 0 c).owed t0_0.castSucc = O₀ c := rfl
  have e5 : (dats m ρ 0 c).owed t0_0.succ = 0 := rfl
  unfold Dat.owesAt
  rw [e1, e2, e3, e4, e5]
  unfold Pipeline.owesWithin
  iintro ⟨HΦ, ⟨%W, %hW, HO⟩, -⟩
  iapply (WP_last (body_wp m c)) $$ [HΦ HO]
  · isplitl [HΦ]; · iexact HΦ
    unfold owesE
    iexists W; iexact HO
  unfold owesE
  iintro ⟨HΦ, ⟨%W', HO⟩⟩
  isplitl [HΦ]; · iexact HΦ
  isplitl [HO]
  · iexists W'
    isplitr; · ipureintro; exact fun _ _ => Or.inl trivial
    iexact HO
  iempintro

/-! ## The launch's side conditions -/

/-- What the core takes into the region besides its scratch. -/
def start (c : Dev nD) : sProp 𝕄 := iprop(G' m c ∗ credits c ∗ levAts L lv ∗ ∃ f, arrays m c f)

/-- The arrays in main memory are the argument and the result. -/
theorem restP_eq (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = iprop((((c : Thread nD τ).loc main_arg0) ↦{fullShare} V main_arg0) ∗ (((c : Thread nD τ).loc main_v1) ↦{fullShare} V main_v1)) :=
  Pipeline.unscopedRestP_eq_of_list cfg0.spec c Pipeline.Prefetch.none V [main_arg0, main_v1] (by decide) (by decide)

/-- The launch gives every core what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [restP_eq]
  iintro ⟨⟨Hx, Ho⟩, Hlev, Hcr, -, HG⟩
  ihave Hc := (creds (F := F) c) $$ Hcr
  imodintro
  unfold start arrays
  isplitl
  · isplitl [HG]; · iexact HG
    isplitl [Hc]; · iexact Hc
    isplitl [Hlev]; · iexact Hlev
    iexists (m ((c : Thread nD τ).loc main_v1))
    isplitl [Hx]; · iexact Hx
    iexact Ho
  · iempintro

/-- With its scratch that is what the body needs. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch
  iintro ⟨Hs, -, Hr⟩
  isplitl [Hs]; · iexact Hs
  iexact Hr

/-- All semaphores at zero: the launch's own and the barrier. -/
theorem semsOut_eq (c : Dev nD) : (semsOut c : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, banks]
  unfold semsOut
  rw [sems_eq]
  iintro ⟨HL, HB, Hz⟩
  isplitl [Hz]; · iexact Hz
  isplitl [HB] <;> iassumption

/-- What the body leaves is the arrays, the semaphores at zero and the scratch. -/
theorem phi1_exit (c : Dev nD) :
    (dats m ρ 0 c).Φ (Fin.last cfg0.N)
      ⊢ iprop((arrays m c (outV m c) ∗ unscopedSems0 c) ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Hz, Hs, Hx⟩
  ihave Hz := (semsOut_eq (F := F) c) $$ Hz
  icases Hz with ⟨Hu, Ho⟩
  isplitl [Hx Hu]
  · isplitl [Hx] <;> iassumption
  isplitl [Ho]; · iexact Ho
  iexact Hs

/-- No window, so no wait on one. -/
theorem waits (c : Dev nD) : (levAts L lv : sProp 𝕄) ⊢ Pipeline.cellsWaits cfgs (dats m ρ) () 0 c :=
  Pipeline.cellsWaits_intro cfgs (dats m ρ) () 0 c fun w s t => w.elim0

/-- What is read off the final memory, device by device. -/
def final (c : Dev nD) (s : MemSt nD τ sig (Elt F)) : Prop :=
  (s.mem ((c : Thread nD τ).loc main_arg0) = argV m c ∧ s.mem ((c : Thread nD τ).loc main_v1) = outV m c)
    ∧ ∀ sm : SemLoc sig, sm.isScoped .tc = false → s.sem ((c : Thread nD τ), sm) = 0

/-- The final memory is read off what the core holds. -/
theorem final_read (c : Dev nD) (s' : Phys nD τ sig (Elt F)) :
    iprop((arrays m c (outV m c) ∗ unscopedSems0 c) ∗ emp ∗ SI s') ⊢ |={Set.univ}=> iprop(⌜final m c s'.mem⌝ ∗ (SI s' : sProp 𝕄)) := by
  unfold arrays
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hx i (Finset.mem_univ i), funext fun i => ho i (Finset.mem_univ i)⟩, hs⟩
  iexact HSI

/-! ## The program -/

set_option maxRecDepth 8000 in
/-- From any memory with zero counters, over any float values: every weakly fair execution of the program on the four
    devices terminates, with each device's argument unchanged, its result the gathered cast, and every counter at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v1) = outV m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_relay m) $$ HX with HG
      imodintro
      isplitl [HP] <;> iassumption)
    (hglob := glob m)
    (hA := fun _ _ => rfl) (hpf := fun _ k => k.elim0)
    (X := start m) (Y := fun c => iprop(arrays m c (outV m c) ∗ unscopedSems0 c)) (Z := fun _ => iprop(emp))
    (hX := start_intro m ρ) (hin := phi0_intro m ρ) (hout := phi1_exit m ρ)
    (QY := final m) (hY := final_read m)
    (hQ := fun _ h hs => ⟨fun c => (h c).2.2.1, sem_eq_zero hs fun c => (h c).2.2.2⟩)

end Cert.RelayProof

end
-- ==== Proof.Values.lean ====
/-
# What the devices gather

Where the arguments are the blocks of one array, every device's result is the cast of that whole array.
-/
module

public import proofs.«01_k».proof.Proof.Mesh
public import proofs.«01_k».proof.Proof.Gen.ReferenceIdeal.Run
public import Idealize.ShloMosaic.Lib.Layout

@[expose] public section

noncomputable section

namespace Cert.RelayProof

open Cert.KernelIdeal Cert.KernelIdeal.Gen
open Idealize.ShloMosaic
open Idealize.ShloMosaic.TcCoe
open Idealize.SL.Sem

variable {F : FTy → Type} [FloatOps F]

/-- The device that row `r` comes from lies in row `r / 2048` of the mesh. -/
theorem srcDev_div (c : Dev nD) {r : ℕ} (hr : r < 4096) : (srcDev c r).val / 2 = r / 2048 := by
  have hc := dev_lt c
  unfold srcDev
  split
  · next h => exact h.symm
  · next h =>
    split
    · rw [xn_div]; omega
    · rw [xn_div, yn_div]; omega

/-- Along its rows device `c` holds block `c / 2` of the two, along its columns all. -/
theorem block_row (c : Dev nD) : ((Layout.meshBlock [2, 2] ![[0], []] c : (b : Fin 2) → Fin _) 0).val = c.val / 2 := by
  revert c; decide
/-- Along the columns there is one block. -/
theorem block_col (c : Dev nD) : ((Layout.meshBlock [2, 2] ![[0], []] c : (b : Fin 2) → Fin _) 1).val = 0 := by
  revert c; decide

variable (m : (ℓ : Loc nD τ sig) → Buf (Elt F) ℓ)

/-- The gather: from the blocks of `x`, every device's result is `x` cast to bf16. -/
theorem outV_whole (x : FVec F S4096x512 .f32)
    (h : ∀ c : Dev nD, argV m c = Layout.blockN ⟨2, ![2048, 512]⟩ ⟨2, ![4096, 512]⟩ (Layout.meshBlock [2, 2] ![[0], []] c) x) (c : Dev nD) :
    outV m c = truncf .bf16 x bitsLt_bf16_f32 := by
  funext i
  show FloatOps.truncf .bf16 bitsLt_bf16_f32 (argV m (srcDev c (i 0).val) (lowIdx i)) = FloatOps.truncf .bf16 bitsLt_bf16_f32 (x i)
  refine congrArg _ ?_
  rw [h, Layout.blockN_apply]
  refine congrArg x (funext fun b => Fin.ext ?_)
  rw [Layout.TilesN.idx_val]
  have h0 : (i 0).val < 4096 := (i 0).isLt
  have h1 : (i 1).val < 512 := (i 1).isLt
  rcases b with ⟨_ | _ | n, hb⟩
  · show ((Layout.meshBlock [2, 2] ![[0], []] (srcDev c (i 0).val) : (b : Fin 2) → Fin _) 0).val * 2048 + (i 0).val % 2048 = (i 0).val
    rw [block_row, srcDev_div c h0]; omega
  · show ((Layout.meshBlock [2, 2] ![[0], []] (srcDev c (i 0).val) : (b : Fin 2) → Fin _) 1).val * 512 + (i 1).val % 512 = (i 1).val
    rw [block_col]; omega
  · exact absurd hb (by show ¬(n + 1 + 1 < 2); omega)

end Cert.RelayProof

end
-- ==== Proof.lean ====
/-
# The certificate

The kernel's run (Proof/Run.lean) holds over any float values, so it is the frame of the program and of its idealization;
with the gather (Proof/Values.lean) and the reference's run it gives the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The kernel terminates with its argument unchanged and every counter at zero. -/
theorem frame_kernel : Cert.quiescent_Kernel := fun m ρ _ =>
  (θ_run Cert.KernelIdeal.defs _ _).mono (fun _ h => ⟨fun c => (h.1 c).1, h.2⟩) (Cert.RelayProof.run_main (F := Bits) m ρ)

/-- So does its idealization. -/
theorem frame_ideal : Cert.quiescent_KernelIdeal := fun m ρ _ =>
  (θ_run Cert.KernelIdeal.defs _ _).mono (fun _ h => ⟨fun c => (h.1 c).1, h.2⟩) (Cert.RelayProof.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's result, the whole array cast to bf16. -/
theorem values : Cert.algebraic_KernelIdeal_ReferenceIdeal := fun m ρ m' ρ' _ hm =>
  ⟨_, (θ_run Cert.KernelIdeal.defs _ _).mono
      (fun _ h c => ⟨(h.1 c).2.trans (Cert.RelayProof.outV_whole m _ hm c), (h.1 c).1⟩) (Cert.RelayProof.run_main (F := Ideal) m ρ),
    (θ_run Cert.ReferenceIdeal.defs _ _).mono (fun _ h => h 0) (Cert.ReferenceIdeal.Value.run (F := Ideal) m' ρ')⟩

/-- The certificate: the programs are well formed, and the five claims hold. -/
theorem claim : Cert.Claim := ⟨Cert.Kernel.Gen.facts, Cert.KernelIdeal.Gen.facts, Cert.ReferenceIdeal.Gen.facts,
  frame_kernel, frame_ideal, frame_reference, trivial, values⟩

end Cert.Proof

end
